-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pages_exist_KernelIdeal [hPre_pages_exist_KernelIdeal : Cert.Pre_pages_exist_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_pages_exist_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pages_exist_ReferenceIdeal [hPre_pages_exist_ReferenceIdeal : Cert.Pre_pages_exist_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pages_exist_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pages_exist_KernelIdeal [hKernelIdeal : Cert.KernelIdeal.Facts] [hPre_pages_exist_KernelIdeal : Cert.Pre_pages_exist_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pages_exist_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pages_exist_ReferenceIdeal [hReferenceIdeal : Cert.ReferenceIdeal.Facts] [hPre_pages_exist_ReferenceIdeal : Cert.Pre_pages_exist_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pages_exist_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_pages_exist_KernelIdeal [hKernelIdeal : Cert.KernelIdeal.Facts] [hReferenceIdeal : Cert.ReferenceIdeal.Facts] [hPre_pages_exist_KernelIdeal : Cert.Pre_pages_exist_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pages_exist_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨4, ![256, 32, 16, 128]⟩ ⟨4, ![1024, 32, 16, 128]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![256, 32, 16, 128]⟩ ⟨4, ![1024, 32, 16, 128]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pages_exist_KernelIdeal : Cert.Pre_pages_exist_KernelIdeal.Facts) (hPre_pages_exist_ReferenceIdeal : Cert.Pre_pages_exist_ReferenceIdeal.Facts),
    quiescent_Kernel (hKernel := hKernel)
    ∧ quiescent_KernelIdeal (hKernelIdeal := hKernelIdeal)
    ∧ quiescent_KernelIdeal_pre_pages_exist_KernelIdeal (hKernelIdeal := hKernelIdeal) (hPre_pages_exist_KernelIdeal := hPre_pages_exist_KernelIdeal)
    ∧ quiescent_ReferenceIdeal (hReferenceIdeal := hReferenceIdeal)
    ∧ quiescent_ReferenceIdeal_pre_pages_exist_ReferenceIdeal (hReferenceIdeal := hReferenceIdeal) (hPre_pages_exist_ReferenceIdeal := hPre_pages_exist_ReferenceIdeal)
    ∧ preserves_Kernel_KernelIdeal
    ∧ algebraic_KernelIdeal_ReferenceIdeal_pre_pages_exist_KernelIdeal (hKernelIdeal := hKernelIdeal) (hReferenceIdeal := hReferenceIdeal) (hPre_pages_exist_KernelIdeal := hPre_pages_exist_KernelIdeal)
-- ==== Pre_pages_exist_KernelIdeal.lean ====
abbrev S32x1x16x128 : Shape := ⟨4, ![32, 1, 16, 128]⟩
abbrev S256x32x16x128 : Shape := ⟨4, ![256, 32, 16, 128]⟩
abbrev S32x256 : Shape := ⟨2, ![32, 256]⟩
abbrev S32 : Shape := ⟨1, ![32]⟩
abbrev S256 : Shape := ⟨1, ![256]⟩
abbrev S1x256 : Shape := ⟨2, ![1, 256]⟩
abbrev S32x1 : Shape := ⟨2, ![32, 1]⟩
abbrev S_ : Shape := ⟨0, ![]⟩

class Facts : Prop where
  bcast_S256_S1x256_1 : S256.BroadcastsInDim S1x256 (![1] : Fin 1 → Fin S1x256.rank)
  bcast_S32_S32x1_0 : S32.BroadcastsInDim S32x1 (![0] : Fin 1 → Fin S32x1.rank)
  bcast_S1x256_S32x256_0_1 : S1x256.BroadcastsInDim S32x256 (![0, 1] : Fin 2 → Fin S32x256.rank)
  bcast_S32x1_S32x256_0_1 : S32x1.BroadcastsInDim S32x256 (![0, 1] : Fin 2 → Fin S32x256.rank)
  bcast_S_S32x256 : S_.BroadcastsInDim S32x256 (![] : Fin 0 → Fin S32x256.rank)

variable [Facts]

def fn {F : FTy → Type} [FloatOps F] (main_arg0 : FVec F S32x1x16x128 .f32) (main_arg1 : FVec F S256x32x16x128 .f32) (main_arg2 : FVec F S256x32x16x128 .f32) (main_arg3 : IVec S32x256 32) (main_arg4 : IVec S32 32) : IVec S32x256 1 :=
  let main_v0 : IVec S256 32 := iotaInDim S256 32 0
  let main_v1 : IVec S1x256 32 := broadcastInDim S1x256 ![1] bcast_S256_S1x256_1 main_v0
  let main_v2 : IVec S32x1 32 := broadcastInDim S32x1 ![0] bcast_S32_S32x1_0 main_arg4
  let main_v3 : IVec S32x256 32 := broadcastInDim S32x256 ![0, 1] bcast_S1x256_S32x256_0_1 main_v1
  let main_v4 : IVec S32x256 32 := broadcastInDim S32x256 ![0, 1] bcast_S32x1_S32x256_0_1 main_v2
  let main_v5 : IVec S32x256 1 := cmpi .sge main_v3 main_v4
  let main_c : IVec S_ 32 := constantI S_ 32 0#32
  let main_v6 : IVec S32x256 32 := broadcastInDim S32x256 ![] bcast_S_S32x256 main_c
  let main_v7 : IVec S32x256 1 := cmpi .sge main_arg3 main_v6
  let main_c_0 : IVec S_ 32 := constantI S_ 32 1024#32
  let main_v8 : IVec S32x256 32 := broadcastInDim S32x256 ![] bcast_S_S32x256 main_c_0
  let main_v9 : IVec S32x256 1 := cmpi .slt main_arg3 main_v8
  let main_v10 : IVec S32x256 1 := andi main_v7 main_v9
  let main_v11 : IVec S32x256 1 := ori main_v5 main_v10
  main_v11
-- ==== Pre_pages_exist_ReferenceIdeal.lean ====
abbrev S32x1x16x128 : Shape := ⟨4, ![32, 1, 16, 128]⟩
abbrev S1024x32x16x128 : Shape := ⟨4, ![1024, 32, 16, 128]⟩
abbrev S32x256 : Shape := ⟨2, ![32, 256]⟩
abbrev S32 : Shape := ⟨1, ![32]⟩
abbrev S256 : Shape := ⟨1, ![256]⟩
abbrev S1x256 : Shape := ⟨2, ![1, 256]⟩
abbrev S32x1 : Shape := ⟨2, ![32, 1]⟩
abbrev S_ : Shape := ⟨0, ![]⟩

class Facts : Prop where
  bcast_S256_S1x256_1 : S256.BroadcastsInDim S1x256 (![1] : Fin 1 → Fin S1x256.rank)
  bcast_S32_S32x1_0 : S32.BroadcastsInDim S32x1 (![0] : Fin 1 → Fin S32x1.rank)
  bcast_S1x256_S32x256_0_1 : S1x256.BroadcastsInDim S32x256 (![0, 1] : Fin 2 → Fin S32x256.rank)
  bcast_S32x1_S32x256_0_1 : S32x1.BroadcastsInDim S32x256 (![0, 1] : Fin 2 → Fin S32x256.rank)
  bcast_S_S32x256 : S_.BroadcastsInDim S32x256 (![] : Fin 0 → Fin S32x256.rank)

variable [Facts]

def fn {F : FTy → Type} [FloatOps F] (main_arg0 : FVec F S32x1x16x128 .f32) (main_arg1 : FVec F S1024x32x16x128 .f32) (main_arg2 : FVec F S1024x32x16x128 .f32) (main_arg3 : IVec S32x256 32) (main_arg4 : IVec S32 32) : IVec S32x256 1 :=
  let main_v0 : IVec S256 32 := iotaInDim S256 32 0
  let main_v1 : IVec S1x256 32 := broadcastInDim S1x256 ![1] bcast_S256_S1x256_1 main_v0
  let main_v2 : IVec S32x1 32 := broadcastInDim S32x1 ![0] bcast_S32_S32x1_0 main_arg4
  let main_v3 : IVec S32x256 32 := broadcastInDim S32x256 ![0, 1] bcast_S1x256_S32x256_0_1 main_v1
  let main_v4 : IVec S32x256 32 := broadcastInDim S32x256 ![0, 1] bcast_S32x1_S32x256_0_1 main_v2
  let main_v5 : IVec S32x256 1 := cmpi .sge main_v3 main_v4
  let main_c : IVec S_ 32 := constantI S_ 32 0#32
  let main_v6 : IVec S32x256 32 := broadcastInDim S32x256 ![] bcast_S_S32x256 main_c
  let main_v7 : IVec S32x256 1 := cmpi .sge main_arg3 main_v6
  let main_c_0 : IVec S_ 32 := constantI S_ 32 1024#32
  let main_v8 : IVec S32x256 32 := broadcastInDim S32x256 ![] bcast_S_S32x256 main_c_0
  let main_v9 : IVec S32x256 1 := cmpi .slt main_arg3 main_v8
  let main_v10 : IVec S32x256 1 := andi main_v7 main_v9
  let main_v11 : IVec S32x256 1 := ori main_v5 main_v10
  main_v11
-- ==== Kernel.lean ====
abbrev S32x1x16x128 : Shape := ⟨4, ![32, 1, 16, 128]⟩
abbrev S256x32x16x128 : Shape := ⟨4, ![256, 32, 16, 128]⟩
abbrev S32x256 : Shape := ⟨2, ![32, 256]⟩
abbrev S32 : Shape := ⟨1, ![32]⟩
abbrev S_ : Shape := ⟨0, ![]⟩
abbrev S256 : Shape := ⟨1, ![256]⟩
abbrev S1x256 : Shape := ⟨2, ![1, 256]⟩
abbrev S32x1 : Shape := ⟨2, ![32, 1]⟩
abbrev S32x2048 : Shape := ⟨2, ![32, 2048]⟩
abbrev S16x96x128 : Shape := ⟨3, ![16, 96, 128]⟩
abbrev S32x128 : Shape := ⟨2, ![32, 128]⟩
abbrev S1x96x128 : Shape := ⟨3, ![1, 96, 128]⟩
abbrev S1x32x8192 : Shape := ⟨3, ![1, 32, 8192]⟩
abbrev S2x256x32x128 : Shape := ⟨4, ![2, 256, 32, 128]⟩
abbrev S2x1 : Shape := ⟨2, ![2, 1]⟩
abbrev S1x1 : Shape := ⟨2, ![1, 1]⟩
abbrev S1x256x32x128 : Shape := ⟨4, ![1, 256, 32, 128]⟩
abbrev S256x32x128 : Shape := ⟨3, ![256, 32, 128]⟩
abbrev S256x32x1x128 : Shape := ⟨4, ![256, 32, 1, 128]⟩
abbrev S32x32 : Shape := ⟨2, ![32, 32]⟩
abbrev S256x32 : Shape := ⟨2, ![256, 32]⟩
abbrev S256x8192 : Shape := ⟨2, ![256, 8192]⟩
abbrev S32x8192 : Shape := ⟨2, ![32, 8192]⟩
abbrev S8192x128 : Shape := ⟨2, ![8192, 128]⟩
abbrev S1x32x128 : Shape := ⟨3, ![1, 32, 128]⟩
abbrev S16x32x128 : Shape := ⟨3, ![16, 32, 128]⟩
abbrev S4x16x96x128 : Shape := ⟨4, ![4, 16, 96, 128]⟩
abbrev S3 : Shape := ⟨1, ![3]⟩
abbrev S1x16x96x128 : Shape := ⟨4, ![1, 16, 96, 128]⟩
abbrev S1 : Shape := ⟨1, ![1]⟩
abbrev S1x16x32x128 : Shape := ⟨4, ![1, 16, 32, 128]⟩
abbrev S32x16x128 : Shape := ⟨3, ![32, 16, 128]⟩

abbrev nBuf : Space → Nat
  | .hbm => 38
  | .vmem => 14
  | .smem => 0
  | _ => 0

abbrev bufTy : (tb : Table) → Fin (tcTables nBuf tb) → BufTy
  | .hbm, ⟨0, _⟩ => ⟨S32x1x16x128, .f32⟩
  | .hbm, ⟨1, _⟩ => ⟨S256x32x16x128, .f32⟩
  | .hbm, ⟨2, _⟩ => ⟨S256x32x16x128, .f32⟩
  | .hbm, ⟨3, _⟩ => ⟨S32x256, .i32⟩
  | .hbm, ⟨4, _⟩ => ⟨S32, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S256, .i32⟩
  | .hbm, ⟨14, _⟩ => ⟨S1x256, .i32⟩
  | .hbm, ⟨15, _⟩ => ⟨S32x1, .i32⟩
  | .hbm, ⟨16, _⟩ => ⟨S32x256, .i32⟩
  | .hbm, ⟨17, _⟩ => ⟨S32x256, .i32⟩
  | .hbm, ⟨18, _⟩ => ⟨S32x256, .i1⟩
  | .hbm, ⟨19, _⟩ => ⟨S32x256, .i32⟩
  | .hbm, ⟨20, _⟩ => ⟨S32x256, .i1⟩
  | .hbm, ⟨21, _⟩ => ⟨S32x256, .i1⟩
  | .hbm, ⟨22, _⟩ => ⟨S_, .i32⟩
  | .hbm, ⟨23, _⟩ => ⟨S_, .i32⟩
  | .hbm, ⟨24, _⟩ => ⟨S32x256, .i32⟩
  | .hbm, ⟨25, _⟩ => ⟨S32x256, .i1⟩
  | .hbm, ⟨26, _⟩ => ⟨S32x256, .i1⟩
  | .hbm, ⟨27, _⟩ => ⟨S32x256, .i32⟩
  | .hbm, ⟨28, _⟩ => ⟨S32x256, .i32⟩
  | .hbm, ⟨29, _⟩ => ⟨S_, .i32⟩
  | .hbm, ⟨30, _⟩ => ⟨S_, .i32⟩
  | .hbm, ⟨31, _⟩ => ⟨S32x256, .i32⟩
  | .hbm, ⟨32, _⟩ => ⟨S32x256, .i32⟩
  | .hbm, ⟨33, _⟩ => ⟨S32x2048, .f32⟩
  | .hbm, ⟨34, _⟩ => ⟨S16x96x128, .bf16⟩
  | .hbm, ⟨35, _⟩ => ⟨S16x32x128, .f32⟩
  | .hbm, ⟨36, _⟩ => ⟨S32x16x128, .f32⟩
  | .hbm, ⟨37, _⟩ => ⟨S32x1x16x128, .f32⟩
  | .local _ .vmem, ⟨0, _⟩ => ⟨S32x128, .f32⟩
  | .local _ .vmem, ⟨1, _⟩ => ⟨S32x128, .f32⟩
  | .local _ .vmem, ⟨2, _⟩ => ⟨S32x256, .i32⟩
  | .local _ .vmem, ⟨3, _⟩ => ⟨S1x96x128, .bf16⟩
  | .local _ .vmem, ⟨4, _⟩ => ⟨S1x96x128, .bf16⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S1x32x8192, .f32⟩
  | .local _ .vmem, ⟨9, _⟩ => ⟨S2x256x32x128, .f32⟩
  | .local _ .vmem, ⟨10, _⟩ => ⟨S2x256x32x128, .f32⟩
  | .local _ .vmem, ⟨11, _⟩ => ⟨S16x96x128, .bf16⟩
  | .local _ .vmem, ⟨12, _⟩ => ⟨S16x32x128, .f32⟩
  | .local _ .vmem, ⟨13, _⟩ => ⟨S4x16x96x128, .bf16⟩
  | _, _ => ⟨S32x1x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_call0_v0 : Ref sig .tc := ⟨.hbm, 30, rfl⟩
abbrev main_call0_v1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc1_stg0_0 : Ref sig .tc := ⟨.vmem, 11, rfl⟩
abbrev cc1_stg1_0 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 9
abbrev cc1_sem1_0 : DmaSem sig := 10
abbrev barrier0 : Sem sig := 0

abbrev nD : Nat := 4
abbrev τ : Topo := Topo.v7x

variable {F : FTy → Type} [FloatOps F]

abbrev grid0 : Pipeline.Grid := ⟨2, ![16, 1], ![false, false]⟩

def k0_cond1 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32 : BitVec 32 := 0#32
  let v3 : BitVec 1 := Scalar.cmpi .eq v1 c0_i32
  let v4 : BitVec 32 := Scalar.extui v3
  let c0_i32_0 : BitVec 32 := 0#32
  let v5 : BitVec 1 := Scalar.cmpi .ne v4 c0_i32_0
  v5

def k0_off1 (i : grid0.Coords) : Fin 2 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_58 : BitVec 32 := 0#32
  ![v2.toNat, 0]
def k0_off2 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_59 : BitVec 32 := 0#32
  let c0_i32_60 : BitVec 32 := 0#32
  let c0_i32_61 : BitVec 32 := 0#32
  ![v2.toNat, 0, 0, 0]
def k0_off3 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_53 : BitVec 32 := 1#32
  let v89 : BitVec 32 := Scalar.remsi v1 c1_i32_53
  let c256_i32_54 : BitVec 32 := 256#32
  let v90 : BitVec 32 := Scalar.muli v89 c256_i32_54
  let c0_i32_55 : BitVec 32 := 0#32
  let v91 : BitVec 32 := Scalar.addi v90 c0_i32_55
  let c0_i32_62 : BitVec 32 := 0#32
  let c1_i32_52 : BitVec 32 := 1#32
  let v88 : BitVec 32 := Scalar.divsi v1 c1_i32_52
  let c0_i32_63 : BitVec 32 := 0#32
  ![v91.toNat, 0, v88.toNat, 0]
def k0_cond2 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_1 : BitVec 32 := 1#32
  let v6 : BitVec 32 := Scalar.addi v1 c1_i32_1
  let c16_i32 : BitVec 32 := 16#32
  let v7 : BitVec 1 := Scalar.cmpi .slt v6 c16_i32
  let v8 : BitVec 32 := Scalar.extui v7
  let c0_i32_2 : BitVec 32 := 0#32
  let v9 : BitVec 1 := Scalar.cmpi .ne v8 c0_i32_2
  v9

def k0_off4 (i : grid0.Coords) : Fin 2 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_53 : BitVec 32 := 1#32
  let v89 : BitVec 32 := Scalar.addi v1 c1_i32_53
  let c2_i32_54 : BitVec 32 := 2#32
  let v90 : BitVec 32 := Scalar.remsi v89 c2_i32_54
  let c0_i32_61 : BitVec 32 := 0#32
  ![v90.toNat, 0]
def k0_off5 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_53 : BitVec 32 := 1#32
  let v89 : BitVec 32 := Scalar.addi v1 c1_i32_53
  let c2_i32_54 : BitVec 32 := 2#32
  let v90 : BitVec 32 := Scalar.remsi v89 c2_i32_54
  let c0_i32_62 : BitVec 32 := 0#32
  let c0_i32_63 : BitVec 32 := 0#32
  let c0_i32_64 : BitVec 32 := 0#32
  ![v90.toNat, 0, 0, 0]
def k0_off6 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_52 : BitVec 32 := 1#32
  let v88 : BitVec 32 := Scalar.addi v1 c1_i32_52
  let c1_i32_56 : BitVec 32 := 1#32
  let v92 : BitVec 32 := Scalar.remsi v88 c1_i32_56
  let c256_i32_57 : BitVec 32 := 256#32
  let v93 : BitVec 32 := Scalar.muli v92 c256_i32_57
  let c0_i32_58 : BitVec 32 := 0#32
  let v94 : BitVec 32 := Scalar.addi v93 c0_i32_58
  let c0_i32_65 : BitVec 32 := 0#32
  let c1_i32_55 : BitVec 32 := 1#32
  let v91 : BitVec 32 := Scalar.divsi v88 c1_i32_55
  let c0_i32_66 : BitVec 32 := 0#32
  ![v94.toNat, 0, v91.toNat, 0]
def k0_off7 (i : grid0.Coords) : Fin 2 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_13 : BitVec 32 := 0#32
  ![v2.toNat, 0]
def k0_off8 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_14 : BitVec 32 := 0#32
  let c0_i32_15 : BitVec 32 := 0#32
  let c0_i32_16 : BitVec 32 := 0#32
  ![v2.toNat, 0, 0, 0]
def k0_off9 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_9 : BitVec 32 := 1#32
  let v19 : BitVec 32 := Scalar.remsi v1 c1_i32_9
  let c256_i32 : BitVec 32 := 256#32
  let v20 : BitVec 32 := Scalar.muli v19 c256_i32
  let c0_i32_10 : BitVec 32 := 0#32
  let v21 : BitVec 32 := Scalar.addi v20 c0_i32_10
  let c0_i32_17 : BitVec 32 := 0#32
  let c1_i32_8 : BitVec 32 := 1#32
  let v18 : BitVec 32 := Scalar.divsi v1 c1_i32_8
  let c0_i32_18 : BitVec 32 := 0#32
  ![v21.toNat, 0, v18.toNat, 0]
def k0_off10 (i : grid0.Coords) : Fin 3 → Nat :=
  let arg1 : BitVec 32 := BitVec.ofNat 32 (i 1).val
  let v36 : Index := Scalar.indexCast arg1
  let c0 : Index := 0#32
  let c0_25 : Index := 0#32
  ![v36.toNat, 0, 0]
def k0_off11 (i : grid0.Coords) : Fin 4 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let v43 : Index := Scalar.indexCast v2
  let c0_28 : Index := 0#32
  let c0_29 : Index := 0#32
  let c0_30 : Index := 0#32
  ![v43.toNat, 0, 0, 0]
def k0_cond5 (i : grid0.Coords) : BitVec 1 :=
  let arg1 : BitVec 32 := BitVec.ofNat 32 (i 1).val
  let c0_i32_50 : BitVec 32 := 0#32
  let v85 : BitVec 1 := Scalar.cmpi .eq arg1 c0_i32_50
  let v86 : BitVec 32 := Scalar.extui v85
  let c0_i32_51 : BitVec 32 := 0#32
  let v87 : BitVec 1 := Scalar.cmpi .ne v86 c0_i32_51
  v87

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S32x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x96x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := .none

def k1_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k1_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k1_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k1_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v21 : BitVec 32 := Scalar.addi v2 c1_i32_19
  let c4_i32_20 : BitVec 32 := 4#32
  let v22 : BitVec 32 := Scalar.remsi v21 c4_i32_20
  let c1_i32_25 : BitVec 32 := 1#32
  let v23 : BitVec 32 := Scalar.muli v22 c1_i32_25
  let v24 : BitVec 32 := Scalar.addi c0_i32_26 v23
  v24.toNat
def k1_dev5 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_33 : BitVec 32 := 2#32
  let v33 : BitVec 32 := Scalar.addi v2 c2_i32_33
  let c4_i32_34 : BitVec 32 := 4#32
  let v34 : BitVec 32 := Scalar.remsi v33 c4_i32_34
  let c1_i32_39 : BitVec 32 := 1#32
  let v35 : BitVec 32 := Scalar.muli v34 c1_i32_39
  let v36 : BitVec 32 := Scalar.addi c0_i32_40 v35
  v36.toNat
def k1_dev6 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_47 : BitVec 32 := 3#32
  let v45 : BitVec 32 := Scalar.addi v2 c3_i32_47
  let c4_i32_48 : BitVec 32 := 4#32
  let v46 : BitVec 32 := Scalar.remsi v45 c4_i32_48
  let c1_i32_53 : BitVec 32 := 1#32
  let v47 : BitVec 32 := Scalar.muli v46 c1_i32_53
  let v48 : BitVec 32 := Scalar.addi c0_i32_54 v47
  v48.toNat
abbrev stage1_0 : Fin 1 → Memref sig .tc .vmem S16x96x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== KernelIdeal.lean ====
variable {F : FTy → Type} [FloatOps F] [Named F]
def κ : String → Option EReal := fun
  | "neg" => some ⊥
  | _ => none
-- ==== ReferenceIdeal.lean ====
abbrev S32x1x16x128 : Shape := ⟨4, ![32, 1, 16, 128]⟩
abbrev S1024x32x16x128 : Shape := ⟨4, ![1024, 32, 16, 128]⟩
abbrev S32x256 : Shape := ⟨2, ![32, 256]⟩
abbrev S32 : Shape := ⟨1, ![32]⟩
abbrev S_ : Shape := ⟨0, ![]⟩
abbrev S32x256x1 : Shape := ⟨3, ![32, 256, 1]⟩
abbrev S32x256x32x16x128 : Shape := ⟨5, ![32, 256, 32, 16, 128]⟩
abbrev S32x8192x16x128 : Shape := ⟨4, ![32, 8192, 16, 128]⟩
abbrev S32x16x1x8192 : Shape := ⟨4, ![32, 16, 1, 8192]⟩
abbrev S256 : Shape := ⟨1, ![256]⟩
abbrev S1x256 : Shape := ⟨2, ![1, 256]⟩
abbrev S32x1 : Shape := ⟨2, ![32, 1]⟩
abbrev S32x256x32 : Shape := ⟨3, ![32, 256, 32]⟩
abbrev S32x8192 : Shape := ⟨2, ![32, 8192]⟩
abbrev S32x1x1x8192 : Shape := ⟨4, ![32, 1, 1, 8192]⟩
abbrev S32x16x1 : Shape := ⟨3, ![32, 16, 1]⟩
abbrev S32x16x1x1 : Shape := ⟨4, ![32, 16, 1, 1]⟩
abbrev S32x16x1x128 : Shape := ⟨4, ![32, 16, 1, 128]⟩

abbrev nBuf : Space → Nat
  | .hbm => 56
  | .vmem => 0
  | .smem => 0
  | _ => 0

abbrev bufTy : (tb : Table) → Fin (tcTables nBuf tb) → BufTy
  | .hbm, ⟨0, _⟩ => ⟨S32x1x16x128, .f32⟩
  | .hbm, ⟨1, _⟩ => ⟨S1024x32x16x128, .f32⟩
  | .hbm, ⟨2, _⟩ => ⟨S1024x32x16x128, .f32⟩
  | .hbm, ⟨3, _⟩ => ⟨S32x256, .i32⟩
  | .hbm, ⟨4, _⟩ => ⟨S32, .i32⟩
  | .hbm, ⟨5, _⟩ => ⟨S_, .i32⟩
  | .hbm, ⟨6, _⟩ => ⟨S32x256, .i32⟩
  | .hbm, ⟨7, _⟩ => ⟨S32x256, .i1⟩
  | .hbm, ⟨8, _⟩ => ⟨S_, .i32⟩
  | .hbm, ⟨9, _⟩ => ⟨S32x256, .i32⟩
  | .hbm, ⟨10, _⟩ => ⟨S32x256, .i32⟩
  | .hbm, ⟨11, _⟩ => ⟨S32x256, .i32⟩
  | .hbm, ⟨12, _⟩ => ⟨S32x256x1, .i32⟩
  | .hbm, ⟨13, _⟩ => ⟨S32x256x32x16x128, .f32⟩
  | .hbm, ⟨14, _⟩ => ⟨S32x8192x16x128, .f32⟩
  | .hbm, ⟨15, _⟩ => ⟨S_, .i32⟩
  | .hbm, ⟨16, _⟩ => ⟨S32x256, .i32⟩
  | .hbm, ⟨17, _⟩ => ⟨S32x256, .i1⟩
  | .hbm, ⟨18, _⟩ => ⟨S_, .i32⟩
  | .hbm, ⟨19, _⟩ => ⟨S32x256, .i32⟩
  | .hbm, ⟨20, _⟩ => ⟨S32x256, .i32⟩
  | .hbm, ⟨21, _⟩ => ⟨S32x256, .i32⟩
  | .hbm, ⟨22, _⟩ => ⟨S32x256x1, .i32⟩
  | .hbm, ⟨23, _⟩ => ⟨S32x256x32x16x128, .f32⟩
  | .hbm, ⟨24, _⟩ => ⟨S32x8192x16x128, .f32⟩
  | .hbm, ⟨25, _⟩ => ⟨S32x16x1x8192, .f32⟩
  | .hbm, ⟨26, _⟩ => ⟨S_, .f32⟩
  | .hbm, ⟨27, _⟩ => ⟨S32x16x1x8192, .f32⟩
  | .hbm, ⟨28, _⟩ => ⟨S32x16x1x8192, .f32⟩
  | .hbm, ⟨29, _⟩ => ⟨S256, .i32⟩
  | .hbm, ⟨30, _⟩ => ⟨S1x256, .i32⟩
  | .hbm, ⟨31, _⟩ => ⟨S32x1, .i32⟩
  | .hbm, ⟨32, _⟩ => ⟨S32x256, .i32⟩
  | .hbm, ⟨33, _⟩ => ⟨S32x256, .i32⟩
  | .hbm, ⟨34, _⟩ => ⟨S32x256, .i1⟩
  | .hbm, ⟨35, _⟩ => ⟨S32x256x32, .i1⟩
  | .hbm, ⟨36, _⟩ => ⟨S32x8192, .i1⟩
  | .hbm, ⟨37, _⟩ => ⟨S32x1x1x8192, .i1⟩
  | .hbm, ⟨38, _⟩ => ⟨S_, .f32⟩
  | .hbm, ⟨39, _⟩ => ⟨S_, .f32⟩
  | .hbm, ⟨40, _⟩ => ⟨S32x16x1x8192, .i1⟩
  | .hbm, ⟨41, _⟩ => ⟨S32x16x1x8192, .f32⟩
  | .hbm, ⟨42, _⟩ => ⟨S32x16x1x8192, .f32⟩
  | .hbm, ⟨43, _⟩ => ⟨S_, .f32⟩
  | .hbm, ⟨44, _⟩ => ⟨S32x16x1, .f32⟩
  | .hbm, ⟨45, _⟩ => ⟨S32x16x1x1, .f32⟩
  | .hbm, ⟨46, _⟩ => ⟨S32x16x1x8192, .f32⟩
  | .hbm, ⟨47, _⟩ => ⟨S32x16x1x8192, .f32⟩
  | .hbm, ⟨48, _⟩ => ⟨S32x16x1x8192, .f32⟩
  | .hbm, ⟨49, _⟩ => ⟨S32x16x1x128, .f32⟩
  | .hbm, ⟨50, _⟩ => ⟨S_, .f32⟩
  | .hbm, ⟨51, _⟩ => ⟨S32x16x1, .f32⟩
  | .hbm, ⟨52, _⟩ => ⟨S32x16x1x1, .f32⟩
  | .hbm, ⟨53, _⟩ => ⟨S32x16x1x128, .f32⟩
  | .hbm, ⟨54, _⟩ => ⟨S32x16x1x128, .f32⟩
  | .hbm, ⟨55, _⟩ => ⟨S32x1x16x128, .f32⟩
  | _, _ => ⟨S32x1x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Proof.GatherBase.lean ====
/-
The gather's cells, its receive buffer slot by slot, and the schedule of its signals and copies.

Each of the four devices signals the barrier of the three others and waits for three units. It puts its own
partials in slot 0 of the communication buffer and copies slot 0 into slot `j + 1` of the device `j + 1` places
ahead, `j = 0, 1, 2`. So slot `j + 1` of a device is filled by the device `j + 1` places behind it.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Rounds
public import Idealize.ShloMosaic.Lib.Transfers
public import Idealize.ShloMosaic.Lib.Pipeline.Launch
public import Idealize.ShloMosaic.Lib.Pipeline.Kit
public import Idealize.ShloMosaic.Lib.ValueLayout
public import Idealize.ShloMosaic.Lib.Tactic

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

/-- Round bookkeeping: every cell has one round, a barrier cell with a duty per sender. -/
abbrev UB : Type := URounds (GSem nD τ sig) (Fin 3)
/-- The algebra of the proof: the pipelines' cells, the gather's rounds, and the counters of the copies within a device. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

/-- One device's partials: sums, maxima and weights of every head, one above another. -/
abbrev Part (F : FTy → Type) : Type := S16x96x128.Idx → Elt F .bf16

/-! ## The devices ahead and behind -/

set_option backward.proofsInPublic true in
/-- The device `j + 1` places ahead. -/
def up (j : Fin 3) (c : Dev nD) : Dev nD := ⟨(c.val + (j.val + 1)) % 4, Nat.mod_lt _ (by decide)⟩
set_option backward.proofsInPublic true in
/-- The device `j + 1` places behind. -/
def dn (j : Fin 3) (c : Dev nD) : Dev nD := ⟨(c.val + (3 - j.val)) % 4, Nat.mod_lt _ (by decide)⟩
/-- The copy that goes the same distance the other way. -/
def opp (j : Fin 3) : Fin 3 := j.rev

theorem dn_up (j : Fin 3) (c : Dev nD) : dn j (up j c) = c := by revert j c; decide
theorem up_dn (j : Fin 3) (c : Dev nD) : up j (dn j c) = c := by revert j c; decide
theorem dn_eq_up (j : Fin 3) (c : Dev nD) : dn j c = up (opp j) c := by revert j c; decide
theorem up_eq_dn (j : Fin 3) (c : Dev nD) : up j c = dn (opp j) c := by revert j c; decide
theorem opp_opp (j : Fin 3) : opp (opp j) = j := by revert j; decide
theorem up_inj (j j' : Fin 3) (c : Dev nD) (h : up j c = up j' c) : j = j' := by revert j j' c; decide

/-- Going ahead by a fixed distance permutes the devices. -/
def turn (j : Fin 3) : Dev nD ≃ Dev nD := ⟨up j, dn j, dn_up j, up_dn j⟩

theorem dev1_eq (c : Dev nD) : (⟨k1_dev1 c, k1_dev1_lt c⟩ : Dev nD) = up 0 c := Fin.ext (k1_dev1_eq c)
theorem dev2_eq (c : Dev nD) : (⟨k1_dev2 c, k1_dev2_lt c⟩ : Dev nD) = up 1 c := Fin.ext (k1_dev2_eq c)
theorem dev3_eq (c : Dev nD) : (⟨k1_dev3 c, k1_dev3_lt c⟩ : Dev nD) = up 2 c := Fin.ext (k1_dev3_eq c)
theorem dev4_eq (c : Dev nD) : (⟨k1_dev4 c, k1_dev4_lt c⟩ : Dev nD) = up 0 c := Fin.ext (k1_dev4_eq c)
theorem dev5_eq (c : Dev nD) : (⟨k1_dev5 c, k1_dev5_lt c⟩ : Dev nD) = up 1 c := Fin.ext (k1_dev5_eq c)
theorem dev6_eq (c : Dev nD) : (⟨k1_dev6 c, k1_dev6_lt c⟩ : Dev nD) = up 2 c := Fin.ext (k1_dev6_eq c)

/-! ## The semaphores and their cells -/

abbrev barS : Sem sig := (SemArray.scalar (sig.barrier 0 rfl) : Sems sig S_).sem

set_option backward.proofsInPublic true in
/-- The semaphore that counts copy `j` out of this device. -/
def sendS (j : Fin 3) : DmaSem sig := ⟨11 + j.val, by have := j.isLt; show 11 + j.val < 17; omega⟩
set_option backward.proofsInPublic true in
/-- The semaphore that counts copy `j` into this device. -/
def recvS (j : Fin 3) : DmaSem sig := ⟨14 + j.val, by have := j.isLt; show 14 + j.val < 17; omega⟩

theorem send_slice0 : ((cc1_scratch1.slice (Rect.unit (s := S3) ![0] ![1] inb_S3_S1_0)).squeeze S_ squeezes_S1_S_).sem = sendS 0 := rfl
theorem send_slice1 : ((cc1_scratch1.slice (Rect.unit (s := S3) ![1] ![1] inb_S3_S1_1)).squeeze S_ squeezes_S1_S_).sem = sendS 1 := rfl
theorem send_slice2 : ((cc1_scratch1.slice (Rect.unit (s := S3) ![2] ![1] inb_S3_S1_2)).squeeze S_ squeezes_S1_S_).sem = sendS 2 := rfl
theorem recv_slice0 : ((cc1_scratch2.slice (Rect.unit (s := S3) ![0] ![1] inb_S3_S1_0)).squeeze S_ squeezes_S1_S_).sem = recvS 0 := rfl
theorem recv_slice1 : ((cc1_scratch2.slice (Rect.unit (s := S3) ![1] ![1] inb_S3_S1_1)).squeeze S_ squeezes_S1_S_).sem = recvS 1 := rfl
theorem recv_slice2 : ((cc1_scratch2.slice (Rect.unit (s := S3) ![2] ![1] inb_S3_S1_2)).squeeze S_ squeezes_S1_S_).sem = recvS 2 := rfl

abbrev barCell (c : Dev nD) : GSem nD τ sig := ((c : Thread nD τ), .reg barS)
abbrev sendCell (c : Dev nD) (j : Fin 3) : GSem nD τ sig := ((c : Thread nD τ), .dma (sendS j))
abbrev recvCell (c : Dev nD) (j : Fin 3) : GSem nD τ sig := ((c : Thread nD τ), .dma (recvS j))

theorem send_ne_recv (i j : Fin 3) : (SemLoc.dma (sendS i) : SemLoc sig) ≠ .dma (recvS j) := by revert i j; decide
theorem send_inj {i j : Fin 3} (h : (SemLoc.dma (sendS i) : SemLoc sig) = .dma (sendS j)) : i = j := by revert i j; decide
theorem recv_inj {i j : Fin 3} (h : (SemLoc.dma (recvS i) : SemLoc sig) = .dma (recvS j)) : i = j := by revert i j; decide

/-! ## The communication buffer, slot by slot -/

abbrev xM : Memref sig .tc .vmem S16x96x128 .bf16 := Memref.whole cc1_stg0_0
abbrev oM : Memref sig .tc .vmem S16x32x128 .f32 := Memref.whole cc1_stg1_0
abbrev cM : Memref sig .tc .vmem S4x16x96x128 .bf16 := Memref.whole cc1_scratch0

theorem inb_slot (k : Fin 4) : ∀ a : Fin S4x16x96x128.rank, ![k.val, 0, 0, 0] a + S1x16x96x128.size a ≤ S4x16x96x128.size a := by
  revert k; decide

/-- Slot `k` as the rectangle of its elements. -/
abbrev slotR (k : Fin 4) : Rect S4x16x96x128 := Rect.unit (s := S4x16x96x128) ![k.val, 0, 0, 0] S1x16x96x128.size (inb_slot k)
/-- Slot `k` as a buffer of its own shape. -/
def slotM (k : Fin 4) : Memref sig .tc .vmem S16x96x128 .bf16 := (cM.slice (slotR k) (fun _ => rfl)).squeeze S16x96x128 squeezes_S1x16x96x128_S16x96x128

theorem slot0_eq : (cM.slice (Rect.unit (s := S4x16x96x128) ![0, 0, 0, 0] ![1, 16, 96, 128] inb_S4x16x96x128_S1x16x96x128_0_0_0_0) (fun _ => rfl)).squeeze S16x96x128 squeezes_S1x16x96x128_S16x96x128 = slotM 0 := rfl
theorem slot1_eq : (cM.slice (Rect.unit (s := S4x16x96x128) ![1, 0, 0, 0] ![1, 16, 96, 128] inb_S4x16x96x128_S1x16x96x128_1_0_0_0) (fun _ => rfl)).squeeze S16x96x128 squeezes_S1x16x96x128_S16x96x128 = slotM 1 := rfl
theorem slot2_eq : (cM.slice (Rect.unit (s := S4x16x96x128) ![2, 0, 0, 0] ![1, 16, 96, 128] inb_S4x16x96x128_S1x16x96x128_2_0_0_0) (fun _ => rfl)).squeeze S16x96x128 squeezes_S1x16x96x128_S16x96x128 = slotM 2 := rfl
theorem slot3_eq : (cM.slice (Rect.unit (s := S4x16x96x128) ![3, 0, 0, 0] ![1, 16, 96, 128] inb_S4x16x96x128_S1x16x96x128_3_0_0_0) (fun _ => rfl)).squeeze S16x96x128 squeezes_S1x16x96x128_S16x96x128 = slotM 3 := rfl

/-- Where slot `k`'s elements lie in the buffer. -/
theorem slot_emb (k : Fin 4) (x : Fin 16) (y : Fin 96) (z : Fin 128) : (slotM k).view.emb (ix3 x y z) = (ix4 k x y z : S4x16x96x128.Idx) := by
  show (slotR k).emb (Shape.reshapeEquiv _ (ix3 x y z)) = _
  rw [reshapeEquiv_ix3_1abc]
  funext a
  refine Fin.ext ?_
  match a with
  | ⟨0, _⟩ => show k.val + 0 * 1 = k.val; omega
  | ⟨1, _⟩ => show 0 + 1 * x.val = x.val; omega
  | ⟨2, _⟩ => show 0 + 1 * y.val = y.val; omega
  | ⟨3, _⟩ => show 0 + 1 * z.val = z.val; omega

/-- The elements of slot `k`. -/
def slotSet (k : Fin 4) : Finset S4x16x96x128.Idx := (slotM k).view.set

theorem mem_slotSet {k : Fin 4} {i : S4x16x96x128.Idx} : i ∈ slotSet k ↔ ∃ (x : Fin 16) (y : Fin 96) (z : Fin 128), i = ix4 k x y z := by
  constructor
  · intro h
    obtain ⟨y, -, hy⟩ := Finset.mem_map.mp (show i ∈ Finset.map (slotM k).view.emb Finset.univ from h)
    exact ⟨y 0, y 1, y 2, hy.symm.trans ((congrArg (slotM k).view.emb (eq_ix3 y)).trans (slot_emb k (y 0) (y 1) (y 2)))⟩
  · rintro ⟨x, y, z, rfl⟩
    exact Finset.mem_map.mpr ⟨ix3 x y z, Finset.mem_univ _, slot_emb k x y z⟩

theorem slots_cover : (Finset.univ : Finset (Fin 4)).biUnion slotSet = Finset.univ := by
  ext i; simp only [Finset.mem_biUnion, Finset.mem_univ, true_and, iff_true]; exact ⟨i 0, mem_slotSet.mpr ⟨i 1, i 2, i 3, eq_ix4 i⟩⟩

theorem slots_disjoint (k k' : Fin 4) (h : k ≠ k') : Disjoint (slotSet k) (slotSet k') :=
  Finset.disjoint_left.mpr fun i hi hi' => by
    obtain ⟨x, y, z, rfl⟩ := mem_slotSet.mp hi
    obtain ⟨x', y', z', e⟩ := mem_slotSet.mp hi'
    exact h (congrFun e 0)

/-- The amount a copy of a slot counts. -/
def N : ℕ := (slotM 0).view.dmaCredit
theorem N_pos : 0 < N := View.dmaCredit_pos _ (by decide)
theorem slot_credit (k : Fin 4) : (slotM k).view.dmaCredit = N := rfl

/-! ## Contents -/

set_option backward.proofsInPublic true in
/-- Whose partials slot `k` of device `c` receives. -/
def src (c : Dev nD) (k : Fin 4) : Dev nD := ⟨(c.val + (4 - k.val)) % 4, Nat.mod_lt _ (by decide)⟩
theorem src_zero (c : Dev nD) : src c 0 = c := by revert c; decide
theorem src_succ (c : Dev nD) (j : Fin 3) : src c j.succ = dn j c := by revert c j; decide
theorem src_up (c : Dev nD) (j : Fin 3) : src (up j c) j.succ = c := by rw [src_succ, dn_up]

variable (X : Dev nD → Part F)

/-- What the communication buffer of device `c` holds once everything has arrived. -/
def commAt (c : Dev nD) : S4x16x96x128.Idx → Elt F .bf16 := fun i => X (src c (i 0)) (ix3 (i 1) (i 2) (i 3))

omit [FloatOps F] [Named F] in
theorem commAt_ix4 (c : Dev nD) (k : Fin 4) (x : Fin 16) (y : Fin 96) (z : Fin 128) : commAt X c (ix4 k x y z) = X (src c k) (ix3 x y z) := rfl

/-- Slot `k` of device `c` held at share `q`, the buffer's contents there those of `f`. -/
def slotPts (q : PosShare TreeShare) (c : Dev nD) (k : Fin 4) (f : Buf (Elt F) ((c : Thread nD τ).loc cc1_scratch0)) : sProp 𝕄 :=
  ((c : Thread nD τ).loc cc1_scratch0) ↦[slotSet k]{q} f

omit [FloatOps F] [Named F] in
instance slotPts_storable (q) (c : Dev nD) (k) (f) : BI.Storable (upEmb : UEmb _ 𝕄) (slotPts (F := F) q c k f) := by unfold slotPts; infer_instance

omit [FloatOps F] [Named F] in
/-- The buffer is its four slots. -/
theorem comm_slots (c : Dev nD) (f : Buf (Elt F) ((c : Thread nD τ).loc cc1_scratch0)) :
    ((((c : Thread nD τ).loc cc1_scratch0) ↦{fullShare} f) : sProp 𝕄)
      = iprop(slotPts fullShare c 0 f ∗ slotPts fullShare c 1 f ∗ slotPts fullShare c 2 f ∗ slotPts fullShare c 3 f) := by
  have h := pointsTo_biUnion (Val := Elt F) (Ix := Unit) (Name := ℕ) (U := UU) (Lvl := ℕ) (ℓ := (c : Thread nD τ).loc cc1_scratch0) (q := fullShare) (f := f)
    (Finset.univ : Finset (Fin 4)) slotSet (fun t _ t' _ ht => slots_disjoint t t' ht)
  rw [slots_cover] at h
  rw [h, bigSep_univ_eq_bigSepL [0, 1, 2, 3] (by decide) (by decide)]
  rfl

omit [FloatOps F] [Named F] in
/-- Slot 0 in three shares, one for each copy out. -/
theorem slot0_shares (c : Dev nD) (f : Buf (Elt F) ((c : Thread nD τ).loc cc1_scratch0)) :
    (slotPts fullShare c 0 f : sProp 𝕄)
      ⊣⊢ iprop(slotPts fullShare.left c 0 f ∗ slotPts fullShare.right.left c 0 f ∗ slotPts fullShare.right.right c 0 f) := by
  unfold slotPts
  have h1 := pointsTo_share (Val := Elt F) (Ix := Unit) (Name := ℕ) (U := UU) (Lvl := ℕ) (ℓ := (c : Thread nD τ).loc cc1_scratch0) (I := slotSet 0) (f := f)
    (PosShare.mem_left_op_right fullShare)
  have h2 := pointsTo_share (Val := Elt F) (Ix := Unit) (Name := ℕ) (U := UU) (Lvl := ℕ) (ℓ := (c : Thread nD τ).loc cc1_scratch0) (I := slotSet 0) (f := f)
    (PosShare.mem_left_op_right fullShare.right)
  exact ⟨h1.1.trans (sep_mono_right h2.1), (sep_mono_right h2.2).trans h1.2⟩

/-- The share copy `j` reads slot 0 at. -/
def shr : Fin 3 → PosShare TreeShare := fun | 0 => fullShare.left | 1 => fullShare.right.left | 2 => fullShare.right.right

omit [FloatOps F] [Named F] in
/-- What lands in slot `j + 1` of the device ahead is what that slot is to hold. -/
theorem landed (c : Dev nD) (j : Fin 3) (fd : S4x16x96x128.Idx → Elt F .bf16) (i : S4x16x96x128.Idx) (hi : i ∈ slotSet j.succ) :
    (slotM j.succ).view.write (Elt F) fd ((slotM 0).view.read (Elt F) (commAt X c)) Finset.univ i = commAt X (up j c) i := by
  obtain ⟨x, y, z, rfl⟩ := mem_slotSet.mp hi
  have hw := View.write_emb_of_mem (Val := Elt F) (v := (slotM j.succ).view) fd ((slotM 0).view.read (Elt F) (commAt X c)) (M := Finset.univ)
    (x := ix3 x y z) (Finset.mem_univ _)
  rw [slot_emb] at hw
  refine hw.trans ?_
  show commAt X c ((slotM 0).view.emb (ix3 x y z)) = _
  rw [slot_emb, commAt_ix4, commAt_ix4, src_zero, src_up]

/-- What the store of the device's own partials leaves in slot 0. -/
theorem stored (c : Dev nD) (fd : S4x16x96x128.Idx → Elt F .bf16) (i : S4x16x96x128.Idx) (hi : i ∈ slotSet 0) :
    (cM.access (Rect.unit (s := S4x16x96x128) ![0, 0, 0, 0] S1x16x96x128.size inb_S4x16x96x128_S1x16x96x128_0_0_0_0) : View sig .tc _ _ _).write (Elt F) fd (k1_pay2 (X c)) Finset.univ i
      = commAt X c i := by
  obtain ⟨x, y, z, rfl⟩ := mem_slotSet.mp hi
  have he : (cM.access (slotR 0) : View sig .tc _ _ _).emb (ix4 (⟨0, Nat.one_pos⟩ : Fin 1) x y z) = (ix4 (0 : Fin 4) x y z : S4x16x96x128.Idx) := by
    rw [← slot_emb 0 x y z]
    show _ = (slotR 0).emb (Shape.reshapeEquiv squeezes_S1x16x96x128_S16x96x128.numel_eq (ix3 x y z))
    rw [reshapeEquiv_ix3_1abc]; rfl
  have hw := View.write_emb_of_mem (Val := Elt F) (v := (cM.access (slotR 0) : View sig .tc _ _ _)) fd (k1_pay2 (X c)) (M := Finset.univ)
    (x := ix4 (⟨0, Nat.one_pos⟩ : Fin 1) x y z) (Finset.mem_univ _)
  rw [he] at hw
  refine hw.trans ?_
  show k1_pay2 (X c) (ix4 (⟨0, Nat.one_pos⟩ : Fin 1) x y z) = _
  unfold k1_pay2
  rw [shapeCast_abc_1abc_apply, commAt_ix4, src_zero]
  rw [shapeCast_apply _ _ _ (ix3 x y z) rfl]

/-! ## The schedule -/

/-- What barrier duty `d` of device `c` brings: the slot `c` copies into on the device that pays it, and that the
    receiving cell there is in its first round. -/
def barPay (c : Dev nD) (d : Fin 3) : sProp 𝕄 := iprop((∃ f, slotPts fullShare (dn d c) (opp d).succ f) ∗ reached ER (recvCell (dn d c) (opp d)) 0)

abbrev IsBar (g : GSem nD τ sig) : Prop := g.1.2 = .tc ∧ g.2 = .reg barS
abbrev IsXfer (g : GSem nD τ sig) : Prop := g.1.2 = .tc ∧ ∃ j, g.2 = .dma (sendS j) ∨ g.2 = .dma (recvS j)

def xferPay (c : Dev nD) : ℕ → sProp 𝕄
  | 11 => slotPts (shr 0) c 0 (commAt X c)
  | 12 => slotPts (shr 1) c 0 (commAt X c)
  | 13 => slotPts (shr 2) c 0 (commAt X c)
  | 14 => slotPts fullShare c 1 (commAt X c)
  | 15 => slotPts fullShare c 2 (commAt X c)
  | 16 => slotPts fullShare c 3 (commAt X c)
  | _ => iprop(emp)

def sched : Rounds.Schedule (GSem nD τ sig) (Fin 3) 𝕄 where
  duties g r := if r = 0 ∧ IsBar g then Finset.univ else if r = 0 ∧ IsXfer g then {0} else ∅
  unitless _ := False
  amount g _ _ := match g.2 with
    | .reg _ => 1
    | .dma _ => N
  payload g _ d := match g.2 with
    | .reg _ => barPay g.1.1 d
    | .dma q => xferPay X g.1.1 q.val
  amount_pos g _ _ _ := by
    rcases g with ⟨t, sm⟩
    cases sm with
    | reg _ => exact Nat.one_pos
    | dma _ => exact N_pos

omit [FloatOps F] [Named F] in
instance xferPay_storable (c : Dev nD) (n : ℕ) : BI.Storable (upEmb : UEmb _ 𝕄) (xferPay (F := F) X c n) := by
  unfold xferPay; split <;> infer_instance

omit [FloatOps F] [Named F] in
instance sched_payload_storable (g : GSem nD τ sig) (r : ℕ) (d : Fin 3) : BI.Storable (upEmb : UEmb _ 𝕄) ((sched (F := F) X).payload g r d) := by
  rcases g with ⟨t, sm⟩
  cases sm with
  | reg _ => show BI.Storable upEmb (barPay t.1 d); unfold barPay; infer_instance
  | dma q => show BI.Storable upEmb (xferPay X t.1 q.val); infer_instance

section Tables
variable (c : Dev nD)

omit [FloatOps F] [Named F] in
theorem duties_bar : (sched (F := F) X).duties (barCell c) 0 = Finset.univ := by dsimp only [sched]; exact if_pos ⟨rfl, rfl, rfl⟩
omit [FloatOps F] [Named F] in
theorem duties_send (j : Fin 3) : (sched (F := F) X).duties (sendCell c j) 0 = {0} := by
  dsimp only [sched]; rw [if_neg (fun h => by cases h.2.2)]; exact if_pos ⟨rfl, rfl, j, .inl rfl⟩
omit [FloatOps F] [Named F] in
theorem duties_recv (j : Fin 3) : (sched (F := F) X).duties (recvCell c j) 0 = {0} := by
  dsimp only [sched]; rw [if_neg (fun h => by cases h.2.2)]; exact if_pos ⟨rfl, rfl, j, .inr rfl⟩
omit [FloatOps F] [Named F] in
theorem duties_later (g : GSem nD τ sig) : ∀ r, 1 ≤ r → (sched (F := F) X).duties g r = ∅ :=
  fun r hr => by dsimp only [sched]; rw [if_neg fun h => by omega, if_neg fun h => by omega]

omit [FloatOps F] [Named F] in
theorem expect_bar : (sched (F := F) X).expect (barCell c) 0 = 3 := by
  unfold Schedule.expect Schedule.amountOf
  rw [duties_bar]; rfl
omit [FloatOps F] [Named F] in
theorem expect_send (j : Fin 3) : (sched (F := F) X).expect (sendCell c j) 0 = N := by
  unfold Schedule.expect Schedule.amountOf; rw [duties_send, Finset.sum_singleton]; rfl
omit [FloatOps F] [Named F] in
theorem expect_recv (j : Fin 3) : (sched (F := F) X).expect (recvCell c j) 0 = N := by
  unfold Schedule.expect Schedule.amountOf; rw [duties_recv, Finset.sum_singleton]; rfl

omit [FloatOps F] [Named F] in
theorem payload_bar (d : Fin 3) : (sched (F := F) X).payload (barCell c) 0 d = barPay c d := rfl
omit [FloatOps F] [Named F] in
theorem payload_send (j d : Fin 3) : (sched (F := F) X).payload (sendCell c j) 0 d = slotPts (shr j) c 0 (commAt X c) := by
  match j with
  | 0 => rfl
  | 1 => rfl
  | 2 => rfl
omit [FloatOps F] [Named F] in
theorem payload_recv (j d : Fin 3) : (sched (F := F) X).payload (recvCell c j) 0 d = slotPts fullShare c j.succ (commAt X c) := by
  match j with
  | 0 => rfl
  | 1 => rfl
  | 2 => rfl

omit [FloatOps F] [Named F] in
theorem rest_bar : bigSep ((sched (F := F) X).duties (barCell c) 0 \ ∅) (fun d => (sched (F := F) X).payload (barCell c) 0 d)
    = iprop(barPay c 0 ∗ barPay c 1 ∗ barPay c 2) := by
  rw [Finset.sdiff_empty, duties_bar, bigSep_univ_eq_bigSepL [0, 1, 2] (by decide) (by decide)]; rfl
omit [FloatOps F] [Named F] in
theorem rest_send (j : Fin 3) : bigSep ((sched (F := F) X).duties (sendCell c j) 0 \ ∅) (fun d => (sched (F := F) X).payload (sendCell c j) 0 d)
    = slotPts (shr j) c 0 (commAt X c) := by
  rw [Finset.sdiff_empty, duties_send, bigSep_singleton, payload_send]
omit [FloatOps F] [Named F] in
theorem rest_recv (j : Fin 3) : bigSep ((sched (F := F) X).duties (recvCell c j) 0 \ ∅) (fun d => (sched (F := F) X).payload (recvCell c j) 0 d)
    = slotPts fullShare c j.succ (commAt X c) := by
  rw [Finset.sdiff_empty, duties_recv, bigSep_singleton, payload_recv]

end Tables

/-! ## What a device owes at launch, and the order of the waits -/

/-- Before the copies: an arrival at each device ahead. -/
def owed2 (c : Dev nD) : CellTallies nD τ sig Unit := tallyAt (recvCell (up 2 c) 2) () N
def owed1 (c : Dev nD) : CellTallies nD τ sig Unit := owed2 c + tallyAt (recvCell (up 1 c) 1) () N
def owed0 (c : Dev nD) : CellTallies nD τ sig Unit := owed1 c + tallyAt (recvCell (up 0 c) 0) () N
/-- Before that the signals, the first owed outermost. -/
def oweB2 (c : Dev nD) : CellTallies nD τ sig Unit := owed0 c + tallyAt (barCell (up 2 c)) () 1
def oweB1 (c : Dev nD) : CellTallies nD τ sig Unit := oweB2 c + tallyAt (barCell (up 1 c)) () 1
def oweB0 (c : Dev nD) : CellTallies nD τ sig Unit := oweB1 c + tallyAt (barCell (up 0 c)) () 1

theorem oweB0_apply (c : Dev nD) (g : GSem nD τ sig) : oweB0 c g ()
    = (((((if g = recvCell (up 2 c) 2 then N else 0) + (if g = recvCell (up 1 c) 1 then N else 0)) + (if g = recvCell (up 0 c) 0 then N else 0))
        + (if g = barCell (up 2 c) then 1 else 0)) + (if g = barCell (up 1 c) then 1 else 0)) + (if g = barCell (up 0 c) then 1 else 0) := by
  unfold oweB0 oweB1 oweB2 owed0 owed1 owed2
  simp only [Pi.add_apply, Finsupp.add_apply, tallyAt_apply, and_true]
theorem owed0_apply (c : Dev nD) (g : GSem nD τ sig) : owed0 c g ()
    = ((if g = recvCell (up 2 c) 2 then N else 0) + (if g = recvCell (up 1 c) 1 then N else 0)) + (if g = recvCell (up 0 c) 0 then N else 0) := by
  unfold owed0 owed1 owed2
  simp only [Pi.add_apply, Finsupp.add_apply, tallyAt_apply, and_true]

theorem owed0_pos {c : Dev nD} {g : GSem nD τ sig} {u : Unit} (h : 0 < owed0 c g u) : ∃ j, g = recvCell (up j c) j := by
  by_contra hn; simp only [not_exists] at hn
  cases u
  rw [owed0_apply, if_neg (hn 2), if_neg (hn 1), if_neg (hn 0)] at h
  exact Nat.lt_irrefl 0 h
theorem oweB0_pos {c : Dev nD} {g : GSem nD τ sig} {u : Unit} (h : 0 < oweB0 c g u) :
    ∃ j, g = recvCell (up j c) j ∨ g = barCell (up j c) := by
  by_contra hn; simp only [not_exists, not_or] at hn
  cases u
  rw [oweB0_apply, if_neg (hn 2).1, if_neg (hn 1).1, if_neg (hn 0).1, if_neg (hn 2).2, if_neg (hn 1).2, if_neg (hn 0).2] at h
  exact Nat.lt_irrefl 0 h

abbrev IsRecv (sm : SemLoc sig) : Prop := ∃ j, sm = .dma (recvS j)

def L (g : GSem nD τ sig) : Finset Unit := if g.1.2 = .tc then {()} else ∅
/-- Barriers below arrivals, everything else below both. -/
def lv (g : GSem nD τ sig) (_ : Unit) : ℕ := if g.2 = .reg barS then 1 else if IsRecv g.2 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (j : Fin 3) (u : Unit) : lv (recvCell c j) u = 2 := by
  unfold lv; rw [if_neg (fun h => by cases h)]; exact if_pos ⟨j, rfl⟩
theorem lv_other (c : Dev nD) (q : DmaSem sig) (hq : ¬ IsRecv (.dma q)) (u : Unit) : lv ((c : Thread nD τ), .dma q) u = 0 := by
  unfold lv; rw [if_neg (fun h => by cases h)]; exact if_neg hq

omit [FloatOps F] [Named F] in
theorem mayWait_stage (c : Dev nD) (q : DmaSem sig) (hq : ¬ IsRecv (.dma q)) (O : CellTallies nD τ sig Unit) (hO : O = oweB0 c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨j, rfl | rfl⟩ := oweB0_pos hg <;> exact Finset.mem_singleton_self _)
      (fun p hp => by rw [Finset.mem_singleton.mp hp, lv_other c q hq])
      (fun g u hg => by
        obtain ⟨j, rfl | rfl⟩ := oweB0_pos hg
        · rw [lv_recv]; decide
        · rw [lv_bar]; decide)
  · rw [MayWait_zero]; iintro -; iempintro

omit [FloatOps F] [Named F] in
/-- At its barrier a device owes arrivals alone, and those come above every barrier. -/
theorem mayWait_bar (c : Dev nD) : (levAts L lv : sProp 𝕄) ⊢ MayWait (c : Thread nD τ) (.reg barS) () (owed0 c) :=
  MayOwe.of_cut (L := L) (lev := lv) 1 (fun p hp => by rw [Finset.mem_singleton.mp hp, L_tc]; exact Finset.mem_singleton_self _)
    (fun g u hg => by obtain ⟨j, rfl⟩ := owed0_pos hg; exact Finset.mem_singleton_self _)
    (fun p hp => by rw [Finset.mem_singleton.mp hp]; exact (lv_bar c ()).le)
    (fun g u hg => by obtain ⟨j, rfl⟩ := owed0_pos hg; rw [lv_recv]; decide)

end Cert.Gather

end
-- ==== Proof.GatherBody.lean ====
/-
The gather's body on one device: the signals, the wait, the store of its own partials, the three copies out, the six
waits, and the reads of the four slots the result is computed from.
-/
module

public import proofs.«01_k».proof.Proof.GatherBase

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

abbrev 𝒱₀ : Variants := Variants.none

/-! ## The reads and the result -/

/-- The reads of the slots' three parts: maxima from row 32, weights from row 64, sums from row 0. -/
def rd (f : S4x16x96x128.Idx → Elt F .bf16) (k : Fin 4) (o : Fin 3) : Vec F S1x16x32x128 .bf16 :=
  fun i => f (ix4 k (i 1) ⟨32 * o.val + (i 2).val, by have h1 : (i 2).val < 32 := (i 2).isLt; have := o.isLt; omega⟩ (i 3))

/-- What the body stores, from the buffer's contents. -/
def combine (f : S4x16x96x128.Idx → Elt F .bf16) : FVec F S16x32x128 .f32 :=
  let mx := k1_pay3 (rd f 0 1) (rd f 1 1) (rd f 2 1) (rd f 3 1)
  let e0 := k1_pay6 (rd f 0 1) (rd f 1 1) (rd f 2 1) (rd f 3 1) (rd f 0 1)
  k1_pay1 mx (k1_pay8 mx k1_pay5 e0 (rd f 0 2) (rd f 1 1) (rd f 1 2)) (k1_pay9 mx (rd f 2 1))
    (k1_pay10 mx k1_pay4 e0 (rd f 0 0) (rd f 1 1) (rd f 1 0) (rd f 2 1) (rd f 2 0)) (rd f 2 2) (rd f 3 1) (rd f 3 0) (rd f 3 2)

variable (X : Dev nD → Part F)

/-- The result of device `c`. -/
def outAt (c : Dev nD) : S16x32x128.Idx → Elt F .f32 := combine (commAt X c)

theorem inb_rd (k : Fin 4) (o : Fin 3) : ∀ a : Fin S4x16x96x128.rank, ![k.val, 0, 32 * o.val, 0] a + S1x16x32x128.size a ≤ S4x16x96x128.size a := by
  revert k o; decide

omit [FloatOps F] [Named F] in
theorem read_rd (f : S4x16x96x128.Idx → Elt F .bf16) (k : Fin 4) (o : Fin 3) (w : ℕ) (hw : w = 32 * o.val) (k' : ℕ) (hk : k' = k.val)
    (inb : ∀ a : Fin S4x16x96x128.rank, ![k', 0, w, 0] a + S1x16x32x128.size a ≤ S4x16x96x128.size a) :
    cM.view.readAt (Elt F) (Rect.unit (s := S4x16x96x128) ![k', 0, w, 0] S1x16x32x128.size inb).toLoadRect f = rd f k o := by
  subst hw hk
  funext i
  show f ((Rect.unit (s := S4x16x96x128) ![k.val, 0, 32 * o.val, 0] S1x16x32x128.size inb).toLoadRect.idx i) = _
  unfold rd
  refine congrArg f (funext fun a => Fin.ext ?_)
  match a with
  | ⟨0, _⟩ => show k.val + 1 * (i 0).val = k.val; have : (i 0).val < 1 := (i 0).isLt; omega
  | ⟨1, _⟩ => show 0 + 1 * (i 1).val = (i 1).val; omega
  | ⟨2, _⟩ => show 32 * o.val + 1 * (i 2).val = 32 * o.val + (i 2).val; omega
  | ⟨3, _⟩ => show 0 + 1 * (i 3).val = (i 3).val; omega

theorem slot_access (k : Fin 4) : (cM.access (slotR k) : View sig .tc _ _ _).set = slotSet k := by
  have h := View.set_reshape (v := (cM.access (slotR k) : View sig .tc _ _ _)) (squeezes_S1x16x96x128_S16x96x128.numel_eq)
  exact h.symm

/-! ## The cells' records -/

set_option backward.proofsInPublic true in
def barEmb : Dev nD ↪ GSem nD τ sig := ⟨fun c => barCell c, fun _ _ h => congrArg (fun g : GSem nD τ sig => g.1.1) h⟩
/-- The gather's own semaphores: the six that count copies. -/
abbrev osem : Fin 6 → SemLoc sig := fun
  | 0 => .dma (sendS 0) | 1 => .dma (sendS 1) | 2 => .dma (sendS 2)
  | 3 => .dma (recvS 0) | 4 => .dma (recvS 1) | 5 => .dma (recvS 2)
theorem osem_inj : Function.Injective osem := by decide
theorem osem_ne_bar : ∀ k : Fin 6, osem k ≠ .reg barS := by decide
set_option backward.proofsInPublic true in
def scEmb : Dev nD × Fin 6 ↪ GSem nD τ sig :=
  ⟨fun ck => ((ck.1 : Thread nD τ), osem ck.2), fun _ _ h =>
    Prod.ext (congrArg (fun g : GSem nD τ sig => g.1.1) h) (osem_inj (congrArg Prod.snd h))⟩
/-- The cells open from the start, and those opened when the gather begins. -/
abbrev barCells : Finset (GSem nD τ sig) := Finset.univ.map barEmb
abbrev scCells : Finset (GSem nD τ sig) := Finset.univ.map scEmb

set_option backward.proofsInPublic true in
def iS (j : Fin 3) : Fin 6 := ⟨j.val, by omega⟩
set_option backward.proofsInPublic true in
def iR (j : Fin 3) : Fin 6 := ⟨3 + j.val, by omega⟩
theorem bar_mem (c : Dev nD) : barCell c ∈ (barCells ∪ scCells : Finset (GSem nD τ sig)) :=
  Finset.mem_union_left _ (Finset.mem_map_of_mem barEmb (Finset.mem_univ c))
theorem send_mem (c : Dev nD) (j : Fin 3) : sendCell c j ∈ (barCells ∪ scCells : Finset (GSem nD τ sig)) := by
  refine Finset.mem_union_right _ (Finset.mem_map.mpr ⟨(c, iS j), Finset.mem_univ _, ?_⟩)
  match j with | 0 => rfl | 1 => rfl | 2 => rfl
theorem recv_mem (c : Dev nD) (j : Fin 3) : recvCell c j ∈ (barCells ∪ scCells : Finset (GSem nD τ sig)) := by
  refine Finset.mem_union_right _ (Finset.mem_map.mpr ⟨(c, iR j), Finset.mem_univ _, ?_⟩)
  match j with | 0 => rfl | 1 => rfl | 2 => rfl

/-- Every cell's invariant, at the names `K`, and that every barrier cell is in its first round. -/
def records (K : GSem nD τ sig → ℕ) : sProp 𝕄 :=
  iprop((bigSep (barCells ∪ scCells) fun g => cellInv ER (sched X) (K g) g) ∗ bigSep barCells fun g => reached ER g 0)

instance records_persistent (K : GSem nD τ sig → ℕ) : BI.Persistent (records (F := F) X K) := by unfold records; infer_instance

omit [FloatOps F] [Named F] in
theorem inv_at (K : GSem nD τ sig → ℕ) (g : GSem nD τ sig) (hg : g ∈ (barCells ∪ scCells : Finset (GSem nD τ sig))) :
    records (F := F) X K ⊢ cellInv ER (sched X) (K g) g := by
  unfold records; iintro ⟨H, -⟩
  ihave H2 := (show (bigSep (barCells ∪ scCells) fun g => (cellInv ER (sched X) (K g) g : sProp 𝕄)) ⊢ cellInv ER (sched X) (K g) g
    from bigSep_elim hg) $$ H
  iexact H2
omit [FloatOps F] [Named F] in
theorem reached_bar (K : GSem nD τ sig → ℕ) (c : Dev nD) : records (F := F) X K ⊢ reached ER (barCell c) 0 := by
  unfold records; iintro ⟨-, H⟩
  ihave H2 := (show (bigSep barCells fun g => (reached ER g 0 : sProp 𝕄)) ⊢ reached ER (barCell c) 0
    from bigSep_elim (Finset.mem_map_of_mem barEmb (Finset.mem_univ c))) $$ H
  iexact H2
omit [FloatOps F] [Named F] in
theorem inv_bar (K : GSem nD τ sig → ℕ) (c : Dev nD) : records (F := F) X K ⊢ cellInv ER (sched X) (K (barCell c)) (barCell c) := inv_at X K _ (bar_mem c)
omit [FloatOps F] [Named F] in
theorem inv_send (K : GSem nD τ sig → ℕ) (c : Dev nD) (j : Fin 3) : records (F := F) X K ⊢ cellInv ER (sched X) (K (sendCell c j)) (sendCell c j) := inv_at X K _ (send_mem c j)
omit [FloatOps F] [Named F] in
theorem inv_recv (K : GSem nD τ sig → ℕ) (c : Dev nD) (j : Fin 3) : records (F := F) X K ⊢ cellInv ER (sched X) (K (recvCell c j)) (recvCell c j) := inv_at X K _ (recv_mem c j)

/-- What device `c` pays for copy `j` with: the barrier duty at the device ahead, its own sending duty, the receiving
    duty there. -/
def paysFor (c : Dev nD) (j : Fin 3) : sProp 𝕄 :=
  iprop(dutyTok ER (barCell (up j c)) 0 j ∗ dutyTok ER (sendCell c j) 0 0 ∗ dutyTok ER (recvCell (up j c) j) 0 0)
/-- With the right to open its own two cells. -/
def lane0 (c : Dev nD) (j : Fin 3) : sProp 𝕄 :=
  iprop(paysFor c j ∗ openTok ER (sendCell c j) ∗ openTok ER (recvCell c j))
/-- With those open: the positions, and that the cells are in their first round. -/
def lane (c : Dev nD) (j : Fin 3) : sProp 𝕄 :=
  iprop((dutyTok ER (barCell (up j c)) 0 j ∗ dutyTok ER (sendCell c j) 0 0 ∗ dutyTok ER (recvCell (up j c) j) 0 0)
    ∗ (atPos ER (sendCell c j) 0 ∅ 0 ∗ atPos ER (recvCell c j) 0 ∅ 0) ∗ reached ER (sendCell c j) 0 ∗ reached ER (recvCell c j) 0)

/-- The bookkeeping a device has from the launch. -/
def ghost0 (K : GSem nD τ sig → ℕ) (c : Dev nD) : sProp 𝕄 :=
  iprop(records X K ∗ atPos ER (barCell c) 0 ∅ 0 ∗ lane0 c 0 ∗ lane0 c 1 ∗ lane0 c 2)
/-- The bookkeeping a device starts the gather from. -/
def ghost (K : GSem nD τ sig → ℕ) (c : Dev nD) : sProp 𝕄 :=
  iprop(records X K ∗ atPos ER (barCell c) 0 ∅ 0 ∗ lane c 0 ∗ lane c 1 ∗ lane c 2)

/-- The credits a device may wait with. -/
def credits (c : Dev nD) : sProp 𝕄 :=
  iprop(cred (tallyAt (barCell c) () 3) ∗ cred (tallyAt (recvCell c 0) () N) ∗ cred (tallyAt (recvCell c 1) () N) ∗ cred (tallyAt (recvCell c 2) () N))

/-- Before the body. -/
def start (c : Dev nD) : sProp 𝕄 := iprop((∃ K, ghost X K c) ∗ credits c ∗ levAts L lv)

/-- The device's own seven counters at zero. -/
def cleared (c : Dev nD) : sProp 𝕄 :=
  iprop(semVal (barCell c) 0 ∗ (semVal (sendCell c 0) 0 ∗ semVal (sendCell c 1) 0 ∗ semVal (sendCell c 2) 0)
    ∗ semVal (recvCell c 0) 0 ∗ semVal (recvCell c 1) 0 ∗ semVal (recvCell c 2) 0)

section Body

variable (K : GSem nD τ sig → ℕ)

omit [FloatOps F] [Named F] in
theorem pay_bar (c : Dev nD) (j : Fin 3) : (sched (F := F) X).payload (barCell (up j c)) 0 j
    = iprop((∃ f, slotPts fullShare c (opp j).succ f) ∗ reached ER (recvCell c (opp j)) 0) := by
  rw [payload_bar]; unfold barPay; rw [dn_up]

omit [FloatOps F] [Named F] in
theorem barPay_up (c : Dev nD) (j d : Fin 3) (h : d = opp j) : (barPay c d : sProp 𝕄)
    = iprop((∃ f, slotPts fullShare (up j c) j.succ f) ∗ reached ER (recvCell (up j c) j) 0) := by
  subst h; unfold barPay; rw [opp_opp, ← up_eq_dn]

/-- A signal to the device ahead: the slot that device fills goes with it. -/
theorem wp_tell (c : Dev nD) (j : Fin 3) (O : CellTallies nD τ sig Unit) (W : Waits sig Unit)
    {α : Type} {Q : α → sProp 𝕄} {k : PUnit → Prog (TpuEff nD τ sig (Elt F) Λ₀ .tc) α}
    (f : Buf (Elt F) ((c : Thread nD τ).loc cc1_scratch0)) :
    iprop(records X K ∗ owes (c : Thread nD τ) (O + tallyAt (barCell (up j c)) () 1) W ∗ dutyTok ER (barCell (up j c)) 0 j ∗ slotPts fullShare c (opp j).succ f ∗ reached ER (recvCell c (opp j)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (up j c : Thread nD τ) barS 1) k) Q) := by
  iintro ⟨#HR, HO, Ht, Hs, #Hr⟩ Hk
  iapply (Rounds.wp_signal 𝒱₀ ER (sched X) (c : Thread nD τ) none (dst := (up j c : Thread nD τ)) (κ := K (barCell (up j c)))
      (d := j) (by rw [duties_bar]; exact Finset.mem_univ _) rfl () O rfl) $$ [HO Ht Hs]
  · isplitr; · iapply (inv_bar X K (up j c)); iexact HR
    isplitl [HO]; · iexact HO
    isplitl [Ht]; · iexact Ht
    isplitl [Hs]
    · rw [pay_bar]
      isplitl [Hs]; · iexists f; iexact Hs
      iexact Hr
    · iapply (reached_bar X K (up j c)); iexact HR
  iintro HO
  iapply Hk; iexact HO

/-- Copy `j` out of slot 0, read at its share, into the device ahead. -/
theorem wp_copy (c n : Dev nD) (j : Fin 3) (hn : n = up j c) {hsc : (slotM j.succ : Memref sig (Dev.tc n : Thread nD τ).2.kind .vmem S16x96x128 .bf16).view.ref.isScScratch = false}
    {hsrc : (slotM 0).view.WordExact} {hdst : (slotM j.succ).view.WordExact}
    {hsem : DmaTarget.Typed .vmem (.dma (recvS j)) (.remote (Dev.tc n : Thread nD τ) (slotM j.succ) (.dma (sendS j)) hsc)}
    {α : Type} {Q : α → sProp 𝕄} {k : PUnit → Prog (TpuEff nD τ sig (Elt F) Λ₀ .tc) α}
    (fd : Buf (Elt F) ((up j c : Thread nD τ).loc cc1_scratch0)) (O : CellTallies nD τ sig Unit) (W : Waits sig Unit) :
    iprop(records X K ∗ slotPts (shr j) c 0 (commAt X c) ∗ slotPts fullShare (up j c) j.succ fd
        ∗ owes (c : Thread nD τ) (O + tallyAt (recvCell (up j c) j) () N) W
        ∗ dutyTok ER (sendCell c j) 0 0 ∗ dutyTok ER (recvCell (up j c) j) 0 0 ∗ reached ER (sendCell c j) 0 ∗ reached ER (recvCell (up j c) j) 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc n : Thread nD τ) (slotM j.succ) (.dma (sendS j)) hsc) (.dma (recvS j)) hsrc hdst hsem) k) Q) := by
  subst hn
  iintro ⟨#HR, Hs, Hd, HO, Ht, Ht', #Hr1, #Hr2⟩ Hk
  unfold slotPts slotSet
  iapply (Rounds.wp_send_pointsTo 𝒱₀ ER (sched X) (c : Thread nD τ) none (κ₁ := K (sendCell c j)) (κ₂ := K (recvCell (up j c) j))
    (r₁ := 0) (r₂ := 0) (d₁ := 0) (d₂ := 0) (fd := fd)
    (by rw [duties_send X c j]; exact Finset.mem_singleton_self _) (by rw [duties_recv X (up j c) j]; exact Finset.mem_singleton_self _)
    () () N rfl rfl rfl O rfl (W := W)
    (by rw [payload_send]; exact BI.Entails.refl _)
    (by
      rw [payload_recv]; unfold slotPts
      exact Entails.of_eq (pointsTo_congr fun i hi => landed X c j fd i hi))) $$ [Hs Hd HO Ht Ht']
  · isplitr; · iapply (inv_send X K c j); iexact HR
    isplitr; · iapply (inv_recv X K (up j c) j); iexact HR
    isplitl [Hs]; · iexact Hs
    isplitl [Hd]; · iexact Hd
    isplitl [HO]; · iexact HO
    isplitl [Ht]; · iexact Ht
    isplitr; · iexact Hr1
    isplitl [Ht']; · iexact Ht'
    iexact Hr2
  iintro H
  iapply Hk; iexact H

/-- The wait for copy `j` out, owing nothing: its share of slot 0 comes back. -/
theorem wp_waitS (c : Dev nD) (j : Fin 3) (W : Waits sig Unit)
    {src dst : Memref sig .tc .vmem S16x96x128 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(records X K ∗ cred (tallyAt (sendCell c j) () N) ∗ owes (c : Thread nD τ) 0 W ∗ atPos ER (sendCell c j) 0 ∅ 0)
      ⊢ iprop(((owes (c : Thread nD τ) 0 (insert (SemLoc.dma (sendS j), ()) W) ∗ atPos ER (sendCell c j) (0 + 1) ∅ 0
            ∗ slotPts (shr j) c 0 (commAt X c)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS j) src dst hsrc hdst) k) Q) := by
  iintro ⟨#HR, Hc, HO, Hat⟩ Hk
  iapply (Rounds.wp_wait_rest_token 𝒱₀ ER (sched X) (c : Thread nD τ) none (κ := K (sendCell c j))
      (wpE_waitDma2_eq 𝒱₀ (c : Thread nD τ) none Set.univ) (Set.mem_univ _) () (O := 0) (W := W) (R := 0) (m := 0) (T := ∅)
      (by rw [Nat.zero_add, hN, expect_send])) $$ [Hc HO Hat]
  · isplitr; · iapply (inv_send X K c j); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_send X c j)); iexact Hpay

/-- The wait for copy `j` in, owing nothing: the slot comes filled. -/
theorem wp_waitR (c : Dev nD) (j : Fin 3) (W : Waits sig Unit)
    {src dst : Memref sig .tc .vmem S16x96x128 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(records X K ∗ cred (tallyAt (recvCell c j) () N) ∗ owes (c : Thread nD τ) 0 W ∗ atPos ER (recvCell c j) 0 ∅ 0)
      ⊢ iprop(((owes (c : Thread nD τ) 0 (insert (SemLoc.dma (recvS j), ()) W) ∗ atPos ER (recvCell c j) (0 + 1) ∅ 0
            ∗ slotPts fullShare c j.succ (commAt X c)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS j) src dst hsrc hdst) k) Q) := by
  iintro ⟨#HR, Hc, HO, Hat⟩ Hk
  iapply (Rounds.wp_wait_rest_token 𝒱₀ ER (sched X) (c : Thread nD τ) none (κ := K (recvCell c j))
      (wpE_waitDma2_eq 𝒱₀ (c : Thread nD τ) none Set.univ) (Set.mem_univ _) () (O := 0) (W := W) (R := 0) (m := 0) (T := ∅)
      (by rw [Nat.zero_add, hN, expect_recv])) $$ [Hc HO Hat]
  · isplitr; · iapply (inv_recv X K c j); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_recv X c j)); iexact Hpay

/-- The three slots a device gives away at its signals, and the first, which it keeps. -/
abbrev xr : Rect S16x96x128 := Rect.unit (s := S16x96x128) ![0, 0, 0] S16x96x128.size inb_S16x96x128_S16x96x128_0_0_0
abbrev or : Rect S16x32x128 := Rect.unit (s := S16x32x128) ![0, 0, 0] S16x32x128.size inb_S16x32x128_S16x32x128_0_0_0

omit [FloatOps F] [Named F] in
theorem hz3 : (![0, 0, 0] : Fin 3 → Nat) = fun _ => 0 := funext fun a => by fin_cases a <;> rfl
omit [FloatOps F] [Named F] in
theorem read_x (f : S16x96x128.Idx → Elt F .bf16) : xM.view.readAt (Elt F) xr.toLoadRect f = f := Memref.readAt_unit_zero (Elt F) cc1_stg0_0 hz3 _ _
omit [FloatOps F] [Named F] in
theorem write_out (f w : S16x32x128.Idx → Elt F .f32) : (oM.access or : View sig .tc _ _ _).write (Elt F) f w Finset.univ = w :=
  Memref.write_access_unit_zero_univ (Elt F) cc1_stg1_0 hz3 _ f w

/-- The device's own staging buffers. -/
def xPts (c : Dev nD) : sProp 𝕄 := ((c : Thread nD τ).loc cc1_stg0_0) ↦{fullShare} (X c : S16x96x128.Idx → Elt F .bf16)
def oPts (c : Dev nD) (f : S16x32x128.Idx → Elt F .f32) : sProp 𝕄 := ((c : Thread nD τ).loc cc1_stg1_0) ↦{fullShare} f
def commPts (c : Dev nD) (f : S4x16x96x128.Idx → Elt F .bf16) : sProp 𝕄 := ((c : Thread nD τ).loc cc1_scratch0) ↦{fullShare} f

def bodyPre (c : Dev nD) (W : Waits sig Unit) : sProp 𝕄 :=
  iprop(xPts X c ∗ (∃ o, oPts c o) ∗ (∃ f, commPts c f) ∗ owes (c : Thread nD τ) (oweB0 c) W ∗ ghost X K c ∗ credits c ∗ levAts L lv)

def bodyPost (c : Dev nD) : sProp 𝕄 :=
  iprop(xPts X c ∗ oPts c (outAt X c) ∗ commPts c (commAt X c) ∗ (∃ W, owes (c : Thread nD τ) 0 W) ∗ cleared c)

set_option maxHeartbeats 3200000 in
theorem sound_body (c : Dev nD) (W : Waits sig Unit) (Kt : PUnit → sProp 𝕄) :
    iprop(bodyPre X K c W ∗ (bodyPost X c -∗ Kt ⟨⟩))
      ⊢ wp frame (wpE (defs₀ (F := F)) 𝒱₀ c none) Set.univ
          (cc1__gather_body (Memref.whole cc1_stg0_0) (Memref.isWhole_whole _) (Memref.whole cc1_stg1_0) (Memref.isWhole_whole _)
            (Memref.whole cc1_scratch0) (Memref.isWhole_whole _) cc1_scratch1 cc1_scratch2) Kt := by
  simp only [cc1__gather_body_eq_skeleton]; unfold cc1__gather_body_skel
  simp only [k1_part1_eq_skeleton, k1_part2_eq_skeleton, k1_part3_eq_skeleton, k1_part4_eq_skeleton, k1_part5_eq_skeleton, k1_part6_eq_skeleton]
  unfold k1_part1_skel k1_part2_skel k1_part3_skel k1_part4_skel k1_part5_skel k1_part6_skel
  simp only [semSignalWord, semWaitWord, Prog.lift, Prog.bind_op, Prog.bind_ret, Prog.pure_eq_ret, Prog.bind_assoc, wp_deviceId]
  simp only [send_slice0, send_slice1, send_slice2, recv_slice0, recv_slice1, recv_slice2, slot0_eq, slot1_eq, slot2_eq, slot3_eq]
  simp only [dev1_eq c, dev2_eq c, dev3_eq c]
  unfold bodyPre ghost credits lane
  iintro ⟨⟨Hx, ⟨%o, Ho⟩, ⟨%f, Hc⟩, HO, ⟨#HR, HatB, ⟨⟨HtB0, HtS0, HtR0⟩, ⟨HaS0, HaR0⟩, #HrS0, #HrR0⟩, ⟨⟨HtB1, HtS1, HtR1⟩, ⟨HaS1, HaR1⟩, #HrS1, #HrR1⟩, ⟨HtB2, HtS2, HtR2⟩, ⟨HaS2, HaR2⟩, #HrS2, #HrR2⟩,
    ⟨HcB, HcR0, HcR1, HcR2⟩, #Hlev⟩, Hk⟩
  unfold commPts xPts oPts
  ihave Hsl := (Entails.of_eq (comm_slots c f)) $$ Hc
  icases Hsl with ⟨Hs0, Hs1, Hs2, Hs3⟩
  unfold oweB0
  iapply (wp_tell X K c 0 (oweB1 c) W f) $$ [HO HtB0 Hs3]
  · isplitr; · iexact HR
    isplitl [HO]; · iexact HO
    isplitl [HtB0]; · iexact HtB0
    isplitl [Hs3]; · iexact Hs3
    iexact HrR2
  iintro HO
  unfold oweB1
  iapply (wp_tell X K c 1 (oweB2 c) W f) $$ [HO HtB1 Hs2]
  · isplitr; · iexact HR
    isplitl [HO]; · iexact HO
    isplitl [HtB1]; · iexact HtB1
    isplitl [Hs2]; · iexact Hs2
    iexact HrR1
  iintro HO
  unfold oweB2
  iapply (wp_tell X K c 2 (owed0 c) W f) $$ [HO HtB2 Hs1]
  · isplitr; · iexact HR
    isplitl [HO]; · iexact HO
    isplitl [HtB2]; · iexact HtB2
    isplitl [Hs1]; · iexact Hs1
    iexact HrR0
  iintro HO
  -- the wait for all three signals, owing the arrivals: the three slots the copies go to come with them
  iapply (Rounds.wp_wait_rest_token 𝒱₀ ER (sched X) (c : Thread nD τ) none (κ := K (barCell c))
      (wpE_semWait_eq 𝒱₀ (c : Thread nD τ) none Set.univ) (Set.mem_univ _) () (O := owed0 c) (W := W) (R := 0) (m := 0) (T := ∅)
      (by rw [expect_bar]; decide)) $$ [HcB HO HatB]
  · isplitr; · iapply (inv_bar X K c); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar X c)) $$ Hpay
  rw [barPay_up c 2 0 rfl, barPay_up c 1 1 rfl, barPay_up c 0 2 rfl]
  icases Hp with ⟨⟨⟨%f3, Hd3⟩, #Hg2⟩, ⟨⟨%f2, Hd2⟩, #Hg1⟩, ⟨%f1, Hd1⟩, #Hg0⟩
  -- the device's own partials put in slot 0
  iapply (wp_load 𝒱₀ (c : Thread nD τ) none Set.univ (m := xM) (Finset.subset_univ _)) $$ Hx; iintro Hx
  rw [read_x]
  ihave Hs0' := (show (slotPts fullShare c 0 f : sProp 𝕄) ⊢ (((c : Thread nD τ).loc cc1_scratch0) ↦[slotSet 0]{fullShare} f) from BI.Entails.refl _) $$ Hs0
  iapply (wp_load_rect 𝒱₀ (c : Thread nD τ) none Set.univ (m := cM) (r := slotR 0) (S := slotSet 0) (q := fullShare) (f := f) (by rw [slot_access])) $$ Hs0'; iintro Hs0
  iapply (wp_store 𝒱₀ (c : Thread nD τ) none Set.univ (m := cM) (r := slotR 0) (S := slotSet 0) (f := f) (Mk := Finset.univ) (by rw [← slot_access]; exact Finset.Subset.refl _)) $$ Hs0; iintro Hs0
  ihave Hs := (Entails.of_eq (pointsTo_congr fun i hi => stored X c f i hi)) $$ Hs0
  ihave Hsh := (show ((((c : Thread nD τ).loc cc1_scratch0) ↦[slotSet 0]{fullShare} commAt X c) : sProp 𝕄)
    ⊢ iprop(slotPts (shr 0) c 0 (commAt X c) ∗ slotPts (shr 1) c 0 (commAt X c) ∗ slotPts (shr 2) c 0 (commAt X c)) from (slot0_shares c (commAt X c)).1) $$ Hs
  icases Hsh with ⟨Hq0, Hq1, Hq2⟩
  -- the three copies
  unfold owed0
  iapply (wp_copy X K c _ 0 (dev4_eq c) f1 (owed1 c) _) $$ [Hq0 Hd1 HO HtS0 HtR0]
  · isplitr; · iexact HR
    isplitl [Hq0]; · iexact Hq0
    isplitl [Hd1]; · iexact Hd1
    isplitl [HO]; · iexact HO
    isplitl [HtS0]; · iexact HtS0
    isplitl [HtR0]; · iexact HtR0
    isplitr; · iexact HrS0
    iexact Hg0
  iintro ⟨HcS0, HO⟩
  unfold owed1
  iapply (wp_copy X K c _ 1 (dev5_eq c) f2 (owed2 c) _) $$ [Hq1 Hd2 HO HtS1 HtR1]
  · isplitr; · iexact HR
    isplitl [Hq1]; · iexact Hq1
    isplitl [Hd2]; · iexact Hd2
    isplitl [HO]; · iexact HO
    isplitl [HtS1]; · iexact HtS1
    isplitl [HtR1]; · iexact HtR1
    isplitr; · iexact HrS1
    iexact Hg1
  iintro ⟨HcS1, HO⟩
  unfold owed2
  iapply (wp_copy X K c _ 2 (dev6_eq c) f3 0 _) $$ [Hq2 Hd3 HO HtS2 HtR2]
  · isplitr; · iexact HR
    isplitl [Hq2]; · iexact Hq2
    isplitl [Hd3]; · iexact Hd3
    isplitl [HO]; · rw [zero_add]; iexact HO
    isplitl [HtS2]; · iexact HtS2
    isplitl [HtR2]; · iexact HtR2
    isplitr; · iexact HrS2
    iexact Hg2
  iintro ⟨HcS2, HO⟩
  iapply (wp_waitS X K c 0 _ (src := slotM 1) (dst := slotM 0) rfl) $$ [HcS0 HO HaS0]
  · isplitr; · iexact HR
    isplitl [HcS0]; · iexact HcS0
    isplitl [HO]; · iexact HO
    iexact HaS0
  iintro ⟨HO, HaS0, Hq0⟩
  iapply (wp_waitR X K c 0 _ (src := slotM 0) (dst := slotM 1) rfl) $$ [HcR0 HO HaR0]
  · isplitr; · iexact HR
    isplitl [HcR0]; · iexact HcR0
    isplitl [HO]; · iexact HO
    iexact HaR0
  iintro ⟨HO, HaR0, Hf0⟩
  iapply (wp_waitS X K c 1 _ (src := slotM 2) (dst := slotM 0) rfl) $$ [HcS1 HO HaS1]
  · isplitr; · iexact HR
    isplitl [HcS1]; · iexact HcS1
    isplitl [HO]; · iexact HO
    iexact HaS1
  iintro ⟨HO, HaS1, Hq1⟩
  iapply (wp_waitR X K c 1 _ (src := slotM 0) (dst := slotM 2) rfl) $$ [HcR1 HO HaR1]
  · isplitr; · iexact HR
    isplitl [HcR1]; · iexact HcR1
    isplitl [HO]; · iexact HO
    iexact HaR1
  iintro ⟨HO, HaR1, Hf1⟩
  iapply (wp_waitS X K c 2 _ (src := slotM 3) (dst := slotM 0) rfl) $$ [HcS2 HO HaS2]
  · isplitr; · iexact HR
    isplitl [HcS2]; · iexact HcS2
    isplitl [HO]; · iexact HO
    iexact HaS2
  iintro ⟨HO, HaS2, Hq2⟩
  iapply (wp_waitR X K c 2 _ (src := slotM 0) (dst := slotM 3) rfl) $$ [HcR2 HO HaR2]
  · isplitr; · iexact HR
    isplitl [HcR2]; · iexact HcR2
    isplitl [HO]; · iexact HO
    iexact HaR2
  iintro ⟨HO, HaR2, Hf2⟩
  -- the buffer whole again
  ihave Hs0 := (slot0_shares c (commAt X c)).2 $$ [Hq0 Hq1 Hq2]
  · isplitl [Hq0]; · iexact Hq0
    isplitl [Hq1]; · iexact Hq1
    iexact Hq2
  ihave Hc := (Entails.of_eq (comm_slots c (commAt X c)).symm) $$ [Hs0 Hf0 Hf1 Hf2]
  · isplitl [Hs0]; · iexact Hs0
    isplitl [Hf0]; · iexact Hf0
    isplitl [Hf1]; · iexact Hf1
    iexact Hf2
  -- the cells close
  imod (Rounds.cell_close ER (sched X) (Set.mem_univ (K (barCell c))) (fun h => h) (R := 0 + 1) (duties_later X (barCell c))) $$ [HatB] with HzB
  · isplitr; · iapply (inv_bar X K c); iexact HR
    iexact HatB
  imod (Rounds.cell_close ER (sched X) (Set.mem_univ (K (sendCell c 0))) (fun h => h) (R := 0 + 1) (duties_later X (sendCell c 0))) $$ [HaS0] with HzS0
  · isplitr; · iapply (inv_send X K c 0); iexact HR
    iexact HaS0
  imod (Rounds.cell_close ER (sched X) (Set.mem_univ (K (recvCell c 0))) (fun h => h) (R := 0 + 1) (duties_later X (recvCell c 0))) $$ [HaR0] with HzR0
  · isplitr; · iapply (inv_recv X K c 0); iexact HR
    iexact HaR0
  imod (Rounds.cell_close ER (sched X) (Set.mem_univ (K (sendCell c 1))) (fun h => h) (R := 0 + 1) (duties_later X (sendCell c 1))) $$ [HaS1] with HzS1
  · isplitr; · iapply (inv_send X K c 1); iexact HR
    iexact HaS1
  imod (Rounds.cell_close ER (sched X) (Set.mem_univ (K (recvCell c 1))) (fun h => h) (R := 0 + 1) (duties_later X (recvCell c 1))) $$ [HaR1] with HzR1
  · isplitr; · iapply (inv_recv X K c 1); iexact HR
    iexact HaR1
  imod (Rounds.cell_close ER (sched X) (Set.mem_univ (K (sendCell c 2))) (fun h => h) (R := 0 + 1) (duties_later X (sendCell c 2))) $$ [HaS2] with HzS2
  · isplitr; · iapply (inv_send X K c 2); iexact HR
    iexact HaS2
  imod (Rounds.cell_close ER (sched X) (Set.mem_univ (K (recvCell c 2))) (fun h => h) (R := 0 + 1) (duties_later X (recvCell c 2))) $$ [HaR2] with HzR2
  · isplitr; · iapply (inv_recv X K c 2); iexact HR
    iexact HaR2
  iapply (wp_load 𝒱₀ (c : Thread nD τ) none Set.univ (m := cM) (Finset.subset_univ _)) $$ Hc; iintro Hc
  rw [read_rd (commAt X c) 0 1 32 rfl 0 rfl]
  iapply (wp_load 𝒱₀ (c : Thread nD τ) none Set.univ (m := cM) (Finset.subset_univ _)) $$ Hc; iintro Hc
  rw [read_rd (commAt X c) 1 1 32 rfl 1 rfl]
  iapply (wp_load 𝒱₀ (c : Thread nD τ) none Set.univ (m := cM) (Finset.subset_univ _)) $$ Hc; iintro Hc
  rw [read_rd (commAt X c) 2 1 32 rfl 2 rfl]
  iapply (wp_load 𝒱₀ (c : Thread nD τ) none Set.univ (m := cM) (Finset.subset_univ _)) $$ Hc; iintro Hc
  rw [read_rd (commAt X c) 3 1 32 rfl 3 rfl]
  iapply (wp_load 𝒱₀ (c : Thread nD τ) none Set.univ (m := cM) (Finset.subset_univ _)) $$ Hc; iintro Hc
  rw [read_rd (commAt X c) 0 1 32 rfl 0 rfl]
  iapply (wp_load 𝒱₀ (c : Thread nD τ) none Set.univ (m := cM) (Finset.subset_univ _)) $$ Hc; iintro Hc
  rw [read_rd (commAt X c) 0 0 0 rfl 0 rfl]
  iapply (wp_load 𝒱₀ (c : Thread nD τ) none Set.univ (m := cM) (Finset.subset_univ _)) $$ Hc; iintro Hc
  rw [read_rd (commAt X c) 0 2 64 rfl 0 rfl]
  iapply (wp_load 𝒱₀ (c : Thread nD τ) none Set.univ (m := cM) (Finset.subset_univ _)) $$ Hc; iintro Hc
  rw [read_rd (commAt X c) 1 1 32 rfl 1 rfl]
  iapply (wp_load 𝒱₀ (c : Thread nD τ) none Set.univ (m := cM) (Finset.subset_univ _)) $$ Hc; iintro Hc
  rw [read_rd (commAt X c) 1 0 0 rfl 1 rfl]
  iapply (wp_load 𝒱₀ (c : Thread nD τ) none Set.univ (m := cM) (Finset.subset_univ _)) $$ Hc; iintro Hc
  rw [read_rd (commAt X c) 1 2 64 rfl 1 rfl]
  iapply (wp_load 𝒱₀ (c : Thread nD τ) none Set.univ (m := cM) (Finset.subset_univ _)) $$ Hc; iintro Hc
  rw [read_rd (commAt X c) 2 1 32 rfl 2 rfl]
  iapply (wp_load 𝒱₀ (c : Thread nD τ) none Set.univ (m := cM) (Finset.subset_univ _)) $$ Hc; iintro Hc
  rw [read_rd (commAt X c) 2 0 0 rfl 2 rfl]
  iapply (wp_load 𝒱₀ (c : Thread nD τ) none Set.univ (m := cM) (Finset.subset_univ _)) $$ Hc; iintro Hc
  rw [read_rd (commAt X c) 2 2 64 rfl 2 rfl]
  iapply (wp_load 𝒱₀ (c : Thread nD τ) none Set.univ (m := cM) (Finset.subset_univ _)) $$ Hc; iintro Hc
  rw [read_rd (commAt X c) 3 1 32 rfl 3 rfl]
  iapply (wp_load 𝒱₀ (c : Thread nD τ) none Set.univ (m := cM) (Finset.subset_univ _)) $$ Hc; iintro Hc
  rw [read_rd (commAt X c) 3 0 0 rfl 3 rfl]
  iapply (wp_load 𝒱₀ (c : Thread nD τ) none Set.univ (m := cM) (Finset.subset_univ _)) $$ Hc; iintro Hc
  rw [read_rd (commAt X c) 3 2 64 rfl 3 rfl]
  iapply (wp_load 𝒱₀ (c : Thread nD τ) none Set.univ (m := oM) (Finset.subset_univ _)) $$ Ho; iintro Ho
  iapply (wp_store 𝒱₀ (c : Thread nD τ) none Set.univ (m := oM) (r := or) (Mk := Finset.univ) (Finset.subset_univ _)) $$ Ho; iintro Ho
  rw [write_out, wp_ret]; imodintro
  iapply Hk
  unfold bodyPost xPts oPts commPts cleared
  isplitl [Hx]; · iexact Hx
  isplitl [Ho]; · iexact Ho
  isplitl [Hc]; · iexact Hc
  isplitl [HO]; · iexists _; iexact HO
  isplitl [HzB]; · iexact HzB
  isplitl [HzS0 HzS1 HzS2]
  · isplitl [HzS0]; · iexact HzS0
    isplitl [HzS1]; · iexact HzS1
    iexact HzS2
  isplitl [HzR0]; · iexact HzR0
  isplitl [HzR1]; · iexact HzR1
  iexact HzR2

end Body

end Cert.Gather

end
-- ==== Proof.AttnBase.lean ====
/-
The streaming of one head's pages: a two-slot buffer filled, slot by slot, with the slices of a larger array.

Head `h` goes to slot `h mod 2` while the other slot is being read. The lemmas speak of any such array, buffer and
pair of semaphores; the attention uses them once for the keys and once for the values.
-/
module

public import proofs.«01_k».proof.Proof.GatherBody

@[expose] public section

noncomputable section

namespace Cert.Attn

open Cert.KernelIdeal Cert.KernelIdeal.Gen Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx

variable {F : FTy → Type} [FloatOps F] [Named F]

local notation "𝕄" => MT nD τ sig Unit (Elt F) ℕ UU ℕ

abbrev EC : UEmb Counters (MT nD τ sig Unit (Elt F) ℕ UU ℕ) := countersEmb

/-! ## The slots and the heads' slices -/

theorem inb_two (p : Fin 2) : ∀ a : Fin S2x256x32x128.rank, ![p.val, 0, 0, 0] a + S1x256x32x128.size a ≤ S2x256x32x128.size a := by
  revert p; decide
theorem inb_head (h : Fin 16) : ∀ a : Fin S256x32x16x128.rank, ![0, 0, h.val, 0] a + S256x32x1x128.size a ≤ S256x32x16x128.size a := by
  revert h; decide
theorem inb_sem (p : Fin 2) : ∀ a : Fin S2x1.rank, ![p.val, 0] a + S1x1.size a ≤ S2x1.size a := by
  revert p; decide

/-- Slot `p` as the rectangle of its elements; head `h` likewise. -/
abbrev twoR (p : Fin 2) : Rect S2x256x32x128 := Rect.unit (s := S2x256x32x128) ![p.val, 0, 0, 0] S1x256x32x128.size (inb_two p)
abbrev headR (h : Fin 16) : Rect S256x32x16x128 := Rect.unit (s := S256x32x16x128) ![0, 0, h.val, 0] S256x32x1x128.size (inb_head h)

section Stream

variable (A : Memref sig .tc .hbm S256x32x16x128 .f32) (B : Memref sig .tc .vmem S2x256x32x128 .f32) (M : DmaSems sig S2x1)

def dstM (p : Fin 2) : Memref sig .tc .vmem S256x32x128 .f32 :=
  (B.slice (twoR p) (fun _ => rfl)).squeeze S256x32x128 squeezes_S1x256x32x128_S256x32x128
def srcM (h : Fin 16) : Memref sig .tc .hbm S256x32x128 .f32 :=
  (A.slice (headR h) (fun _ => rfl)).squeeze S256x32x128 squeezes_S256x32x1x128_S256x32x128
def semM (p : Fin 2) : DmaSem sig := ((M.slice (Rect.unit (s := S2x1) ![p.val, 0] S1x1.size (inb_sem p))).squeeze S_ squeezes_S1x1_S_).sem

theorem dstM_eq (p : Fin 2) (off : Fin 4 → ℕ) (inb : ∀ a : Fin S2x256x32x128.rank, off a + S1x256x32x128.size a ≤ S2x256x32x128.size a)
    (h : off = ![p.val, 0, 0, 0]) :
    (B.slice (Rect.unit (s := S2x256x32x128) off S1x256x32x128.size inb) (fun _ => rfl)).squeeze S256x32x128 squeezes_S1x256x32x128_S256x32x128 = dstM B p := by
  subst h; rfl
theorem srcM_eq (hd : Fin 16) (off : Fin 4 → ℕ) (inb : ∀ a : Fin S256x32x16x128.rank, off a + S256x32x1x128.size a ≤ S256x32x16x128.size a)
    (h : off = ![0, 0, hd.val, 0]) :
    (A.slice (Rect.unit (s := S256x32x16x128) off S256x32x1x128.size inb) (fun _ => rfl)).squeeze S256x32x128 squeezes_S256x32x1x128_S256x32x128 = srcM A hd := by
  subst h; rfl
theorem semM_eq (p : Fin 2) (off : Fin 2 → ℕ) (inb : ∀ a : Fin S2x1.rank, off a + S1x1.size a ≤ S2x1.size a) (h : off = ![p.val, 0]) :
    ((M.slice (Rect.unit (s := S2x1) off S1x1.size inb)).squeeze S_ squeezes_S1x1_S_).sem = semM M p := by
  subst h; rfl

theorem reshape_page {n : (⟨3, ![256, 32, 128]⟩ : Shape).numel = (⟨4, ![256, 32, 1, 128]⟩ : Shape).numel} (x : Fin 256) (y : Fin 32) (z : Fin 128) :
    Shape.reshapeEquiv n (ix3 x y z) = ix4 x y (⟨0, Nat.one_pos⟩ : Fin 1) z :=
  Shape.reshapeEquiv_eq_of_rowMajor n (by
    rw [Shape.rowMajor_val_four, Shape.rowMajor_val_three]
    simp [ix3, ix4])

theorem srcM_emb (h : Fin 16) (x : Fin 256) (y : Fin 32) (z : Fin 128) :
    (srcM A h).view.emb (ix3 x y z) = A.view.emb (ix4 x y h z : S256x32x16x128.Idx) := by
  show A.view.emb ((headR h).emb (Shape.reshapeEquiv _ (ix3 x y z))) = _
  rw [reshape_page]
  refine congrArg A.view.emb (funext fun a => Fin.ext ?_)
  match a with
  | ⟨0, _⟩ => show 0 + 1 * x.val = x.val; omega
  | ⟨1, _⟩ => show 0 + 1 * y.val = y.val; omega
  | ⟨2, _⟩ => show h.val + 1 * 0 = h.val; omega
  | ⟨3, _⟩ => show 0 + 1 * z.val = z.val; omega

theorem dstM_emb (p : Fin 2) (x : Fin 256) (y : Fin 32) (z : Fin 128) :
    (dstM B p).view.emb (ix3 x y z) = B.view.emb (ix4 p x y z : S2x256x32x128.Idx) := by
  show B.view.emb ((twoR p).emb (Shape.reshapeEquiv _ (ix3 x y z))) = _
  rw [reshapeEquiv_ix3_1abc]
  refine congrArg B.view.emb (funext fun a => Fin.ext ?_)
  match a with
  | ⟨0, _⟩ => show p.val + 1 * 0 = p.val; omega
  | ⟨1, _⟩ => show 0 + 1 * x.val = x.val; omega
  | ⟨2, _⟩ => show 0 + 1 * y.val = y.val; omega
  | ⟨3, _⟩ => show 0 + 1 * z.val = z.val; omega

/-- Head `h` of an array, as a slot of the buffer is read. -/
def headOf {α : Type} (a : S256x32x16x128.Idx → α) (h : Fin 16) : S1x256x32x128.Idx → α := fun i => a (ix4 (i 1) (i 2) h (i 3))

theorem acc_emb (p : Fin 2) (i : S1x256x32x128.Idx) :
    (B.access (twoR p) : View sig .tc _ _ _).emb i = B.view.emb (ix4 p (i 1) (i 2) (i 3) : S2x256x32x128.Idx) := by
  show B.view.emb ((twoR p).emb i) = _
  refine congrArg B.view.emb (funext fun a => Fin.ext ?_)
  have h0 : (i 0).val < 1 := (i 0).isLt
  match a with
  | ⟨0, _⟩ => show p.val + 1 * (i 0).val = p.val; omega
  | ⟨1, _⟩ => show 0 + 1 * (i 1).val = (i 1).val; omega
  | ⟨2, _⟩ => show 0 + 1 * (i 2).val = (i 2).val; omega
  | ⟨3, _⟩ => show 0 + 1 * (i 3).val = (i 3).val; omega

theorem dst_set (p : Fin 2) : (B.access (twoR p) : View sig .tc _ _ _).set = (dstM B p).view.set :=
  (View.set_reshape (v := (B.access (twoR p) : View sig .tc _ _ _)) (squeezes_S1x256x32x128_S256x32x128.numel_eq)).symm

theorem dst_sub (p : Fin 2) : (dstM B p).view.set ⊆ B.view.set := by
  rw [← dst_set]; exact View.set_slice_subset _ _

theorem src_sub (h : Fin 16) : (srcM A h).view.set ⊆ A.view.set := by
  have e : (srcM A h).view.set = (A.view.slice (headR h)).set :=
    View.set_reshape (v := A.view.slice (headR h)) (squeezes_S256x32x1x128_S256x32x128.numel_eq)
  rw [e]; exact View.set_slice_subset _ _

theorem dst_disjoint : Disjoint (dstM B 0).view.set (dstM B 1).view.set :=
  Finset.disjoint_left.mpr fun i hi hi' => by
    obtain ⟨y, -, hy⟩ := Finset.mem_map.mp (show i ∈ Finset.map (dstM B 0).view.emb Finset.univ from hi)
    obtain ⟨y', -, hy'⟩ := Finset.mem_map.mp (show i ∈ Finset.map (dstM B 1).view.emb Finset.univ from hi')
    have e := (congrArg (dstM B 0).view.emb (eq_ix3 y)).trans (dstM_emb B 0 (y 0) (y 1) (y 2))
    have e' := (congrArg (dstM B 1).view.emb (eq_ix3 y')).trans (dstM_emb B 1 (y' 0) (y' 1) (y' 2))
    have := congrFun (B.view.emb.injective (e.symm.trans (hy.trans (hy'.symm.trans e')))) 0
    exact absurd (congrArg Fin.val this) (by show ¬ (0 : ℕ) = 1; decide)

/-- What of the buffer belongs to each slot: slot 0's own elements, and all the others. -/
def slotOf : Fin 2 → Finset B.view.ty.Idx
  | 0 => (dstM B 0).view.set
  | 1 => B.view.set \ (dstM B 0).view.set

theorem dst_slot (p : Fin 2) : (dstM B p).view.set ⊆ slotOf B p := by
  match p with
  | 0 => exact Finset.Subset.refl _
  | 1 =>
    exact fun i hi => Finset.mem_sdiff.mpr ⟨dst_sub B 1 hi, fun h => Finset.disjoint_left.mp (dst_disjoint B) h hi⟩

/-! ## A slot at rest, being filled, filled -/

variable (c : Dev nD)

/-- The part of the array's share each slot reads with. -/
def shareOf : Fin 2 → PosShare TreeShare
  | 0 => fullShare.left
  | 1 => fullShare.right

theorem pages_pos : 0 < S256x32x128.numel := Nat.pos_of_ne_zero fun h => by
  obtain ⟨a, ha⟩ := (Shape.numel_eq_zero_iff _).mp h
  revert ha; revert a; decide

variable (fA : A.view.ty.Contents (Elt F))

def srcPts (q : PosShare TreeShare) : sProp 𝕄 := A.view.loc (c : Thread nD τ) ↦[A.view.set]{q} fA
def dstPts (p : Fin 2) (g : B.view.ty.Contents (Elt F)) : sProp 𝕄 := B.view.loc (c : Thread nD τ) ↦[slotOf B p]{fullShare} g

/-- Slot `p` at rest. -/
def free (p : Fin 2) : sProp 𝕄 :=
  iprop(semVal ((c : Thread nD τ), .dma (semM M p)) 0 ∗ (∃ g, dstPts B c p g) ∗ srcPts A c fA (shareOf p))

/-- Slot `p` reads as head `h`. -/
def Reads (p : Fin 2) (h : Fin 16) (g : B.view.ty.Contents (Elt F)) : Prop :=
  (B.access (twoR p) : View sig .tc _ _ _).read (Elt F) g = headOf (A.view.read (Elt F) fA) h

/-- Slot `p` holding head `h`. -/
def loaded (p : Fin 2) (h : Fin 16) : sProp 𝕄 :=
  iprop(semVal ((c : Thread nD τ), .dma (semM M p)) 0 ∗ (∃ g, ⌜Reads A B fA p h g⌝ ∗ dstPts B c p g) ∗ srcPts A c fA (shareOf p))

/-- Head `h` on its way into slot `p`. -/
def inflight (p : Fin 2) (h : Fin 16) : sProp 𝕄 :=
  iprop(Flight EC (c : Thread nD τ) (.dma (semM M p)) () ((dstM B p).view.dmaCredit)
      iprop((∃ g, ⌜Reads A B fA p h g⌝ ∗ dstPts B c p g) ∗ ((srcM A h).view.loc (c : Thread nD τ) ↦[(srcM A h).view.set]{shareOf p} fA))
    ∗ (A.view.loc (c : Thread nD τ) ↦[A.view.set \ (srcM A h).view.set]{shareOf p} fA))

omit [FloatOps F] [Named F] in
theorem reads_write (p : Fin 2) (h : Fin 16) (g : B.view.ty.Contents (Elt F)) :
    Reads A B fA p h ((dstM B p).view.write (Elt F) g (ReadAs.same.apply ((srcM A h).view.read (Elt F) fA)) Finset.univ) := by
  unfold Reads
  funext i
  have e : (B.access (twoR p) : View sig .tc _ _ _).emb i = (dstM B p).view.emb (ix3 (i 1) (i 2) (i 3)) := (acc_emb B p i).trans (dstM_emb B p (i 1) (i 2) (i 3)).symm
  have r := congrFun (View.read_write_univ (v := (dstM B p).view) g (ReadAs.same.apply ((srcM A h).view.read (Elt F) fA))) (ix3 (i 1) (i 2) (i 3))
  refine (show (B.access (twoR p) : View sig .tc _ _ _).read (Elt F) _ i = (dstM B p).view.read (Elt F) _ (ix3 (i 1) (i 2) (i 3)) from ?_).trans (r.trans ?_)
  · exact congrArg (fun j => _root_.cast (congrArg (Elt F) B.view.elt_eq) (((dstM B p).view.write (Elt F) g (ReadAs.same.apply ((srcM A h).view.read (Elt F) fA)) Finset.univ : B.view.ty.Contents (Elt F)) j)) e
  · show (srcM A h).view.read (Elt F) fA (ix3 (i 1) (i 2) (i 3)) = A.view.read (Elt F) fA (ix4 (i 1) (i 2) h (i 3))
    exact congrArg (fun j => _root_.cast (congrArg (Elt F) A.view.elt_eq) (fA j)) (srcM_emb A h (i 1) (i 2) (i 3))

/-- Starting head `h` into slot `p`. -/
theorem wp_fill (p : Fin 2) (h : Fin 16) {src : Memref sig .tc .hbm S256x32x128 .f32} (hs : src = srcM A h)
    {dst : Memref sig .tc .vmem S256x32x128 .f32} (hd : dst = dstM B p) {sm : DmaSem sig} (hm : sm = semM M p)
    {hsrc : src.view.WordExact} {hdst : dst.view.WordExact} {hsem : DmaTarget.Typed .hbm (.dma sm) (.here dst : DmaTarget nD τ sig (c : Thread nD τ).2 .vmem S256x32x128 .f32)}
    {α : Type} {Q : α → sProp 𝕄} {k : PUnit → Prog (TpuEff nD τ sig (Elt F) Λ₀ .tc) α} :
    free A B M c fA p
      ⊢ iprop((inflight A B M c fA p h -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma sm) hsrc hdst hsem) k) Q) := by
  subst hs hd hm
  unfold free srcPts dstPts
  iintro ⟨Hz, ⟨%g, HB⟩, HA⟩ Hk
  ihave HA2 := (pointsTo_split_subset (src_sub A h)).1 $$ HA
  icases HA2 with ⟨HA1, HA2⟩
  iapply (wp_dmaLocal EC 𝒱₀ (c : Thread nD τ) none (src := srcM A h) (dst := dstM B p) (Sd := slotOf B p) (fs := fA) (fd := g) () ((dstM B p).view.dmaCredit) (View.amount_dma _ _) ((dstM B p).view.dmaCredit_pos pages_pos) (dst_slot B p)) $$ [Hz HB HA1]
  · isplitl [HA1]; · iexact HA1
    isplitl [HB]; · iexact HB
    iexact Hz
  iintro Hf
  iapply Hk
  unfold inflight
  isplitl [Hf]
  · iapply (Flight_mono EC (c : Thread nD τ) _) $$ Hf
    iintro ⟨HB, HA⟩
    isplitl [HB]
    · iexists _
      isplitr; · ipureintro; exact reads_write A B fA p h g
      unfold dstPts; iexact HB
    iexact HA
  iexact HA2

/-- Waiting for slot `p`. -/
theorem wp_arrive (p : Fin 2) (h : Fin 16) {sm : DmaSem sig} (hm : sm = semM M p) (O : CellTallies nD τ sig Unit) (W : Waits sig Unit)
    {src : Memref sig .tc .hbm S256x32x128 .f32} {dst : Memref sig .tc .vmem S256x32x128 .f32} {hsrc : src.view.WordExact} {hdst : dst.view.WordExact}
    (hd : dst = dstM B p)
    {α : Type} {Q : α → sProp 𝕄} {k : PUnit → Prog (TpuEff nD τ sig (Elt F) Λ₀ .tc) α} :
    iprop(inflight A B M c fA p h ∗ owes (c : Thread nD τ) O W ∗ MayWait (c : Thread nD τ) (.dma (semM M p)) () O)
      ⊢ iprop(((loaded A B M c fA p h ∗ owes (c : Thread nD τ) O (insert (SemLoc.dma (semM M p), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hm hd
  unfold inflight
  iintro ⟨⟨Hf, HA2⟩, HO, Hm⟩ Hk
  iapply (wp_waitLocalO EC 𝒱₀ (c : Thread nD τ) none (N := (dstM B p).view.dmaCredit) () (Eq.refl ((dstM B p).view.dmaCredit))) $$ [Hf HO Hm]
  · isplitl [Hf]; · iexact Hf
    isplitl [HO]; · iexact HO
    iexact Hm
  iintro ⟨⟨HB, HA1⟩, Hz, HO⟩
  iapply Hk
  isplitr [HO]
  · unfold loaded srcPts
    isplitl [Hz]; · iexact Hz
    isplitl [HB]; · iexact HB
    iapply (pointsTo_split_subset (src_sub A h)).2
    isplitl [HA1]; · iexact HA1
    iexact HA2
  iexact HO

/-- Reading slot `p`. -/
theorem wp_look (p : Fin 2) (h : Fin 16) {off : Fin 4 → ℕ} {inb : ∀ a : Fin S2x256x32x128.rank, off a + S1x256x32x128.size a ≤ S2x256x32x128.size a}
    (ho : off = ![p.val, 0, 0, 0]) {hl : B.view.LoadsAt (Rect.unit (s := S2x256x32x128) off S1x256x32x128.size inb).toLoadRect}
    {α : Type} {Q : α → sProp 𝕄} {k : (S1x256x32x128.Idx → Elt F .f32) → Prog (TpuEff nD τ sig (Elt F) Λ₀ .tc) α} :
    loaded A B M c fA p h
      ⊢ iprop((free A B M c fA p -∗ wp frame (wpE (defs₀ (F := F)) 𝒱₀ (c : Thread nD τ) none) Set.univ (k (headOf (A.view.read (Elt F) fA) h)) Q)
          -∗ wp frame (wpE (defs₀ (F := F)) 𝒱₀ (c : Thread nD τ) none) Set.univ
              (.op (.load B (Rect.unit (s := S2x256x32x128) off S1x256x32x128.size inb).toLoadRect hl) k) Q) := by
  subst ho
  unfold loaded
  iintro ⟨Hz, ⟨%g, %hg, HB⟩, HA⟩ Hk
  unfold dstPts
  iapply (wp_load_rect 𝒱₀ (c : Thread nD τ) none Set.univ (m := B) (r := twoR p) (S := slotOf B p) (q := fullShare) (f := g)
    (by rw [dst_set]; exact dst_slot B p)) $$ HB
  iintro HB
  rw [show (B.access (twoR p) : View sig .tc _ _ _).read (Elt F) g = headOf (A.view.read (Elt F) fA) h from hg]
  iapply Hk
  unfold free dstPts
  isplitl [Hz]; · iexact Hz
  isplitl [HB]; · iexists g; iexact HB
  iexact HA

/-- The buffer between two points: before the first and after the last both slots rest; otherwise head `t` is on its way. -/
def rest : sProp 𝕄 := iprop(free A B M c fA 0 ∗ free A B M c fA 1)

omit [FloatOps F] [Named F] in
theorem rest_intro (g : B.view.ty.Contents (Elt F)) :
    iprop((B.view.loc (c : Thread nD τ) ↦[B.view.set]{fullShare} g) ∗ srcPts A c fA fullShare
        ∗ semVal ((c : Thread nD τ), .dma (semM M 0)) 0 ∗ semVal ((c : Thread nD τ), .dma (semM M 1)) 0)
      ⊢ (rest A B M c fA : sProp 𝕄) := by
  iintro ⟨HB, HA, H0, H1⟩
  ihave HB2 := (pointsTo_split_subset (dst_sub B 0)).1 $$ HB
  icases HB2 with ⟨HB0, HB1⟩
  unfold srcPts
  ihave HA2 := (pointsTo_share (PosShare.mem_left_op_right fullShare)).1 $$ HA
  icases HA2 with ⟨HA0, HA1⟩
  unfold rest free srcPts dstPts
  isplitl [HB0 HA0 H0]
  · isplitl [H0]; · iexact H0
    isplitl [HB0]; · iexists g; iexact HB0
    iexact HA0
  · isplitl [H1]; · iexact H1
    isplitl [HB1]; · iexists g; iexact HB1
    iexact HA1

omit [FloatOps F] [Named F] in
theorem rest_elim :
    (rest A B M c fA : sProp 𝕄) ⊢ iprop((∃ g, B.view.loc (c : Thread nD τ) ↦[B.view.set]{fullShare} g) ∗ srcPts A c fA fullShare
        ∗ semVal ((c : Thread nD τ), .dma (semM M 0)) 0 ∗ semVal ((c : Thread nD τ), .dma (semM M 1)) 0) := by
  unfold rest free srcPts dstPts
  iintro ⟨⟨H0, ⟨%g0, HB0⟩, HA0⟩, H1, ⟨%g1, HB1⟩, HA1⟩
  isplitl [HB0 HB1]
  · iexists _
    iapply (pointsTo_join_subset (dst_sub B 0))
    isplitl [HB0]; · iexact HB0
    iexact HB1
  isplitl [HA0 HA1]
  · iapply (pointsTo_share (PosShare.mem_left_op_right fullShare)).2
    isplitl [HA0]; · iexact HA0
    iexact HA1
  isplitl [H0]; · iexact H0
  iexact H1

end Stream

end Cert.Attn

end
-- ==== Proof.AttnWeights.lean ====
/-
How often each page is named, and the weights made of it: the attention's first computation, which reads nothing but the page table.
-/
module

public import proofs.«01_k».proof.Proof.AttnBase

@[expose] public section

noncomputable section

namespace Cert.Attn

open Cert.KernelIdeal Cert.KernelIdeal.Gen Cert.Gather

open Idealize.ShloMosaic
open Idealize.ShloMosaic.TcCoe
open Idealize.SL.Sem

variable {F : FTy → Type} [FloatOps F] [Named F]

theorem slices_col (j : ℕ) (h : j < 256) : S32x256.Slices ![0, j] S32x1 :=
  ⟨rfl, fun a => by
    match a with
    | ⟨0, _⟩ => exact Nat.le_refl 32
    | ⟨1, _⟩ => exact h⟩

/-- Which entries of the page table's column `j` name which page. -/
def named (v : IVec S32x256 32) (j : ℕ) (h : j < 256) : FVec F S32x256 .f32 :=
  select (cmpi .eq (broadcastTo S32x256 (extractStridedSlice S32x1 ![0, j] v (slices_col j h)) broadcasts_S32x1_S32x256) (iota .tc S32x256 32 [1] iota_S32x256_d1_w32))
    (broadcast S32x256 (Scalar.ofBits .f32 0x3F800000#32)) (broadcast S32x256 (Scalar.ofBits .f32 0x00000000#32))

/-- How often each page is named in the first `n` columns. -/
def counts (v : IVec S32x256 32) : (n : ℕ) → n ≤ 256 → FVec F S32x256 .f32
  | 0, _ => broadcast S32x256 (Scalar.ofBits .f32 0x00000000#32)
  | n + 1, h => addf (counts v n (Nat.le_of_succ_le h)) (named v n h)

/-- The counts turned about: pages down, batch rows across. -/
def countsT (v : IVec S32x256 32) : FVec F S256x32 .bf16 :=
  truncf .bf16 (matmul dot_S32x256_S32x32_S256x32_0_0_1_1_n_n none (truncf .bf16 (counts v 256 (Nat.le_refl _)) bitsLt_bf16_f32)
    (truncf .bf16 (sitofp .f32 (extui 32 (cmpi .eq (iota .tc S32x32 32 [0] iota_S32x32_d0_w32) (iota .tc S32x32 32 [1] iota_S32x32_d1_w32)) natLt_1_32)) bitsLt_bf16_f32)
    (constant S256x32 .f32 0x00000000#32)) bitsLt_bf16_f32

/-- How often the page each row of keys belongs to is named. -/
def spread (v : IVec S32x256 32) : FVec F S32x8192 .f32 :=
  k0_pay87 (countsT v) (iota .tc S256x8192 32 [0] iota_S256x8192_d0_w32) (iota .tc S256x8192 32 [1] iota_S256x8192_d1_w32) 32#32 k0_pay85 k0_pay86
    (Scalar.extui (Scalar.cmpi .sgt 32#32 0#32)) (Scalar.cmpi .slt 32#32 0#32)

/-- The weights: the logarithm of how often, and below everything where never. -/
def weights (v88 : Vec F S32x256 .i32) : FVec F S1x32x8192 .f32 := k0_pay88 (spread (k0_pay7 (F := F) v88)) (Scalar.ofBits .f32 0x00000000#32)

set_option maxRecDepth 65536 in
theorem part40_eq (i : grid0.Coords) (arg2 : Memref sig .tc .vmem S32x128 .f32) (harg2 : arg2.IsWhole) (arg3 : Memref sig .tc .hbm S256x32x16x128 .f32) (harg3 : arg3.IsWhole) (arg4 : Memref sig .tc .hbm S256x32x16x128 .f32) (harg4 : arg4.IsWhole) (arg5 : Memref sig .tc .vmem S32x256 .i32) (harg5 : arg5.IsWhole) (arg6 : Memref sig .tc .vmem S1x96x128 .bf16) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S1x32x8192 .f32) (harg10 : arg10.IsWhole) (arg11 : Memref sig .tc .vmem S2x256x32x128 .f32) (harg11 : arg11.IsWhole) (arg12 : Memref sig .tc .vmem S2x256x32x128 .f32) (harg12 : arg12.IsWhole) (arg13 : DmaSems sig S2x1) (arg14 : DmaSems sig S2x1) :
    k0_part40 (F := F) i arg2 harg2 arg3 harg3 arg4 harg4 arg5 harg5 arg6 harg6 arg7 harg7 arg8 harg8 arg9 harg9 arg10 harg10 arg11 harg11 arg12 harg12 arg13 arg14
      = .op (.load arg5 (Rect.unit (s := S32x256) ![0, 0] S32x256.size inb_S32x256_S32x256_0_0).toLoadRect (View.loadsAt_vmem h_S32x256))
          fun v88 => .ret ⟨spread (k0_pay7 (F := F) v88), Scalar.ofBits .f32 0x00000000#32⟩ := rfl

end Cert.Attn

end
-- ==== Proof.AttnBody.lean ====
/-
The attention's body at one point: one head's pages waited for, the next one's sent for, and the head's partial sums left in the
output block.
-/
module

public import proofs.«01_k».proof.Proof.AttnWeights

@[expose] public section

noncomputable section

namespace Cert.Attn

open Cert.KernelIdeal Cert.KernelIdeal.Gen Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ UU ℕ

/-! ## Reading and writing a buffer that is held whole -/

section Cells

variable (c : Dev nD) {sp : CoreSpace} {sh : Shape} {e : EltTy} (m : Memref sig .tc sp sh e)

abbrev has (X : sh.Idx → Elt F e) : sProp 𝕄 := owns (c : Thread nD τ) m fullShare X

theorem wp_get {r : Rect sh} {hl : m.view.LoadsAt r.toLoadRect} (X : sh.Idx → Elt F e)
    {α : Type} {Q : α → sProp 𝕄} {k : (r.shape.Idx → Elt F e) → Prog (TpuEff nD τ sig (Elt F) Λ₀ .tc) α} :
    (has c m X) ⊢ iprop((has c m X -∗ wp frame (wpE (defs₀ (F := F)) 𝒱₀ (c : Thread nD τ) none) Set.univ (k fun j => X (r.emb j)) Q)
      -∗ wp frame (wpE (defs₀ (F := F)) 𝒱₀ (c : Thread nD τ) none) Set.univ (.op (.load m r.toLoadRect hl) k) Q) := by
  unfold has owns
  iintro ⟨%f, %hf, H⟩ Hk
  subst hf
  iapply (wp_load_rect 𝒱₀ (c : Thread nD τ) none Set.univ (m := m) (r := r) (S := m.view.set) (q := fullShare) (f := f)
    (View.set_slice_subset _ _)) $$ H
  iintro H
  iapply Hk
  iexists f; isplitr; · (ipureintro; rfl)
  iexact H

/-- What a buffer reads as after a store through `r`. -/
def Put (r : Rect sh) (w : r.shape.Idx → Elt F e) (X Y : sh.Idx → Elt F e) : Prop :=
  (∀ j, Y (r.emb j) = w j) ∧ ∀ i, (∀ j, r.emb j ≠ i) → Y i = X i

theorem put_write (r : Rect sh) (w : r.shape.Idx → Elt F e) (f : m.view.ty.Contents (Elt F)) :
    Put r w (m.view.read (Elt F) f) (m.view.read (Elt F) ((m.access r : View sig .tc _ _ _).write (Elt F) f w Finset.univ)) := by
  constructor
  · intro j
    exact congrFun (View.read_write_univ (v := (m.access r : View sig .tc _ _ _)) f w) j
  · intro i hi
    refine congrArg (_root_.cast (congrArg (Elt F) m.view.elt_eq)) ?_
    refine View.write_of_not_mem (v := (m.access r : View sig .tc _ _ _)) f w _ (i := m.view.emb i) fun h => ?_
    obtain ⟨y, -, hy⟩ := Finset.mem_map.mp h
    exact hi y (m.view.emb.injective hy)

theorem wp_put {r : Rect sh} {w : r.shape.Idx → Elt F e} {hx : (m.access r).Stores Finset.univ} {hm : (Finset.univ : Finset r.shape.Idx) = Finset.univ ∨ ∀ a, r.stride a = 1}
    (X : sh.Idx → Elt F e) {α : Type} {Q : α → sProp 𝕄} {k : PUnit → Prog (TpuEff nD τ sig (Elt F) Λ₀ .tc) α} :
    (has c m X) ⊢ iprop((∀ Y, ⌜Put r w X Y⌝ -∗ has c m Y -∗ wp frame (wpE (defs₀ (F := F)) 𝒱₀ (c : Thread nD τ) none) Set.univ (k ⟨⟩) Q)
      -∗ wp frame (wpE (defs₀ (F := F)) 𝒱₀ (c : Thread nD τ) none) Set.univ (.op (.store m r w Finset.univ hx hm) k) Q) := by
  unfold has owns
  iintro ⟨%f, %hf, H⟩ Hk
  subst hf
  iapply (wp_store 𝒱₀ (c : Thread nD τ) none Set.univ (m := m) (r := r) (S := m.view.set) (f := f) (Mk := Finset.univ)
    (by exact View.set_slice_subset _ _)) $$ H
  iintro H
  ihave Hk2 := Hk $$ %(m.view.read (Elt F) ((m.access r : View sig .tc _ _ _).write (Elt F) f w Finset.univ)) %(put_write m r w f)
  iapply Hk2
  iexists _; isplitr; · (ipureintro; rfl)
  iexact H

theorem put_all {r : Rect sh} (hr : ∀ i, ∃ j, r.emb j = i) {w : r.shape.Idx → Elt F e} {X Y Z : sh.Idx → Elt F e} (hZ : ∀ j, Z (r.emb j) = w j)
    (h : Put r w X Y) : Y = Z := by
  funext i; obtain ⟨j, rfl⟩ := hr i; rw [h.1, hZ]

theorem unit_zero_emb {s : Shape} {off : Fin s.rank → ℕ} (h : off = fun _ => 0) (inb : ∀ a, off a + s.size a ≤ s.size a) (j : s.Idx) :
    (Rect.unit (s := s) off s.size inb).emb j = j := by
  subst h
  funext a; apply Fin.ext
  show 0 + 1 * (j a).val = (j a).val
  omega

theorem wp_get_all {off : Fin sh.rank → ℕ} (ho : off = fun _ => 0) {inb : ∀ a, off a + sh.size a ≤ sh.size a} {hl : m.view.LoadsAt (Rect.unit (s := sh) off sh.size inb).toLoadRect}
    (X : sh.Idx → Elt F e)
    {α : Type} {Q : α → sProp 𝕄} {k : (sh.Idx → Elt F e) → Prog (TpuEff nD τ sig (Elt F) Λ₀ .tc) α} :
    (has c m X) ⊢ iprop((has c m X -∗ wp frame (wpE (defs₀ (F := F)) 𝒱₀ (c : Thread nD τ) none) Set.univ (k X) Q)
      -∗ wp frame (wpE (defs₀ (F := F)) 𝒱₀ (c : Thread nD τ) none) Set.univ (.op (.load m (Rect.unit (s := sh) off sh.size inb).toLoadRect hl) k) Q) := by
  have h := wp_get c m (r := Rect.unit (s := sh) off sh.size inb) (hl := hl) X (k := k) (Q := Q)
  rwa [show (fun j => X ((Rect.unit (s := sh) off sh.size inb).emb j)) = X from funext fun j => congrArg X (unit_zero_emb ho inb j)] at h

theorem wp_put_all {off : Fin sh.rank → ℕ} (ho : off = fun _ => 0) {inb : ∀ a, off a + sh.size a ≤ sh.size a} {w : sh.Idx → Elt F e}
    {hx : (m.access (Rect.unit (s := sh) off sh.size inb)).Stores Finset.univ} {hm}
    (X : sh.Idx → Elt F e) {α : Type} {Q : α → sProp 𝕄} {k : PUnit → Prog (TpuEff nD τ sig (Elt F) Λ₀ .tc) α} :
    (has c m X) ⊢ iprop((has c m w -∗ wp frame (wpE (defs₀ (F := F)) 𝒱₀ (c : Thread nD τ) none) Set.univ (k ⟨⟩) Q)
      -∗ wp frame (wpE (defs₀ (F := F)) 𝒱₀ (c : Thread nD τ) none) Set.univ (.op (.store m (Rect.unit (s := sh) off sh.size inb) w Finset.univ hx hm) k) Q) := by
  iintro H Hk
  iapply (wp_put c m (r := Rect.unit (s := sh) off sh.size inb) X) $$ H
  iintro %Y %hY H
  iapply Hk
  have e : Y = w := put_all (r := Rect.unit (s := sh) off sh.size inb) (fun i => ⟨i, unit_zero_emb ho inb i⟩) (fun j => congrArg w (unit_zero_emb ho inb j)) hY
  subst e
  iexact H

end Cells

/-! ## What one head's point computes -/

abbrev colR : Rect S32x128 := Rect.unit (s := S32x128) ![0, 0] S32x1.size inb_S32x128_S32x1_0_0
def m0 : Vec F S32x1 .f32 := fun j => (k0_pay90 : FVec F S32x128 .f32) (colR.emb j)
def l0 : Vec F S32x1 .f32 := fun j => (k0_pay91 : FVec F S32x128 .f32) (colR.emb j)

section Value
variable (w : Vec F S1x32x8192 .f32) (q : Vec F S32x128 .f32) (K V : Vec F S1x256x32x128 .f32)

def accN : FVec F S32x128 .f32 := k0_pay1 (k0_pay92 V) (k0_pay95 w q K m0) (k0_pay96 w q K m0) k0_pay89
def mN : FVec F S32x128 .f32 := k0_pay2 (k0_pay94 w q K m0)
def lN : FVec F S32x128 .f32 := k0_pay3 (k0_pay96 w q K m0) (k0_pay97 w q K m0 l0)

/-- The block of partial sums: the weighted values, the running maximum, the sum of the weights. -/
def block : Vec F S1x96x128 .bf16 := fun i =>
  if h : (i 1).val < 32 then (k0_pay4 (accN w q K V) : FVec F S1x32x128 .bf16) (ix3 (0 : Fin 1) (⟨(i 1).val, h⟩ : Fin 32) (i 2))
  else if h' : (i 1).val < 64 then (k0_pay5 (mN w q K) : FVec F S1x32x128 .bf16) (ix3 (0 : Fin 1) (⟨(i 1).val - 32, by omega⟩ : Fin 32) (i 2))
  else (k0_pay6 (lN w q K) : FVec F S1x32x128 .bf16) (ix3 (0 : Fin 1) (⟨(i 1).val - 64, by have h96 : (i 1).val < 96 := (i 1).isLt; omega⟩ : Fin 32) (i 2))

theorem block_puts {X0 X1 X2 X3 : Vec F S1x96x128 .bf16}
    (h0 : Put (Rect.unit (s := S1x96x128) ![0, 0, 0] S1x32x128.size inb_S1x96x128_S1x32x128_0_0_0) (k0_pay4 (accN w q K V)) X0 X1)
    (h1 : Put (Rect.unit (s := S1x96x128) ![0, 32, 0] S1x32x128.size inb_S1x96x128_S1x32x128_0_32_0) (k0_pay5 (mN w q K)) X1 X2)
    (h2 : Put (Rect.unit (s := S1x96x128) ![0, 64, 0] S1x32x128.size inb_S1x96x128_S1x32x128_0_64_0) (k0_pay6 (lN w q K)) X2 X3) :
    X3 = block w q K V := by
  have away : ∀ (o : ℕ) (inb) (i : S1x96x128.Idx) (j : S1x32x128.Idx), (i 1).val < o ∨ o + 32 ≤ (i 1).val →
      (Rect.unit (s := S1x96x128) ![0, o, 0] S1x32x128.size inb).emb j ≠ i := by
    intro o inb i j hij he
    have h1 : o + 1 * (j 1).val = (i 1).val := congrArg (fun x => (x 1).val) he
    have h3 : (j 1).val < 32 := (j 1).isLt
    omega
  have at_ : ∀ (o : ℕ) (inb) (i : S1x96x128.Idx) (x : Fin 32), o + x.val = (i 1).val →
      (Rect.unit (s := S1x96x128) ![0, o, 0] S1x32x128.size inb).emb (ix3 (0 : Fin 1) x (i 2)) = i := by
    intro o inb i x hx
    funext a; apply Fin.ext
    match a with
    | ⟨0, _⟩ => show 0 + 1 * 0 = (i 0).val; have h0 : (i 0).val < 1 := (i 0).isLt; omega
    | ⟨1, _⟩ => show o + 1 * x.val = (i 1).val; omega
    | ⟨2, _⟩ => show 0 + 1 * (i 2).val = (i 2).val; omega
  funext i
  have h96 : (i 1).val < 96 := (i 1).isLt
  unfold block
  split
  · rename_i h
    rw [h2.2 i fun j => away 64 _ i j (by omega), h1.2 i fun j => away 32 _ i j (by omega)]
    exact (congrArg X1 (at_ 0 _ i ⟨(i 1).val, h⟩ (by simp))).symm.trans (h0.1 _)
  · split
    · rename_i h h'
      rw [h2.2 i fun j => away 64 _ i j (by omega)]
      exact (congrArg X2 (at_ 32 _ i ⟨(i 1).val - 32, by omega⟩ (by show 32 + ((i 1).val - 32) = _; omega))).symm.trans (h1.1 _)
    · rename_i h h'
      exact (congrArg X3 (at_ 64 _ i ⟨(i 1).val - 64, by omega⟩ (by show 64 + ((i 1).val - 64) = _; omega))).symm.trans (h2.1 _)

end Value

/-! ## The conditions and the slots -/

theorem cond1_iff : ∀ i : grid0.Coords, k0_cond1 i = 1#1 ↔ (i 0).val = 0 := by decide +kernel
theorem cond2_iff : ∀ i : grid0.Coords, k0_cond2 i = 1#1 ↔ (i 0).val + 1 < 16 := by decide +kernel
theorem cond3_iff : ∀ i : grid0.Coords, (Scalar.cmpi .ne (Scalar.extui (Scalar.andi (Scalar.cmpi .eq (BitVec.ofNat 32 (i 0).val) 0#32) (Scalar.cmpi .eq (BitVec.ofNat 32 (i 1).val) 0#32)) : BitVec 32) 0#32 : BitVec 1) = 1#1 ↔ (i 0).val = 0 := by decide +kernel
theorem cond4 : ∀ i : grid0.Coords, (Scalar.cmpi .ne (Scalar.extui (Scalar.cmpi .eq (BitVec.ofNat 32 (i 1).val) 0#32) : BitVec 32) 0#32 : BitVec 1) = 1#1 := by decide +kernel
theorem cond5 : ∀ i : grid0.Coords, k0_cond5 i = 1#1 := by decide +kernel
theorem snd_zero : ∀ i : grid0.Coords, (i 1).val = 0 := by decide +kernel

/-- The slot head `n` goes to. -/
def par (n : ℕ) : Fin 2 := ⟨n % 2, Nat.mod_lt _ (by decide)⟩

theorem par_two (n : ℕ) : par (n + 1 + 1) = par n := Fin.ext (by show (n + 1 + 1) % 2 = n % 2; omega)

section Between

variable (A : Memref sig .tc .hbm S256x32x16x128 .f32) (B : Memref sig .tc .vmem S2x256x32x128 .f32) (M : DmaSems sig S2x1)
variable (c : Dev nD) (fA : A.view.ty.Contents (Elt F))

/-- The other slot once the next head, if there is one, has been sent for. -/
def next (n : ℕ) : sProp 𝕄 := if h : n < 16 then inflight A B M c fA (par n) ⟨n, h⟩ else free A B M c fA (par n)

/-- The two slots before head `n`. -/
def between (n : ℕ) : sProp 𝕄 := if n = 0 then rest A B M c fA else iprop(next A B M c fA n ∗ free A B M c fA (par (n + 1)))

/-- The two slots once the head of the point is on its way. -/
def sent (h : Fin 16) : sProp 𝕄 := iprop(inflight A B M c fA (par h.val) h ∗ free A B M c fA (par (h.val + 1)))

omit [FloatOps F] [Named F] in
theorem between_pos (h : Fin 16) (h0 : h.val ≠ 0) : between A B M c fA h.val = sent A B M c fA h := by
  unfold between sent next; rw [if_neg h0, dif_pos h.isLt]
omit [FloatOps F] [Named F] in
theorem between_zero : between A B M c fA 0 = rest A B M c fA := if_pos rfl
omit [FloatOps F] [Named F] in
theorem between_start (n : ℕ) (h : n = 0) : (between A B M c fA n : sProp 𝕄) = iprop(free A B M c fA (par n) ∗ free A B M c fA (par (n + 1))) := by
  subst h; rfl
omit [FloatOps F] [Named F] in
theorem between_succ (n : ℕ) : between A B M c fA (n + 1) = iprop(next A B M c fA (n + 1) ∗ free A B M c fA (par n)) := by
  unfold between; rw [if_neg (Nat.succ_ne_zero n), par_two]
omit [FloatOps F] [Named F] in
theorem between_last : (between A B M c fA 16 : sProp 𝕄) ⊢ rest A B M c fA := by
  rw [between_succ A B M c fA 15]; unfold next rest; rw [dif_neg (by decide)]
  iintro ⟨H0, H1⟩
  isplitl [H0]
  · iexact H0
  · iexact H1

end Between

/-! ## The body -/

theorem wp_seq {α β : Type} {c : Dev nD} {p : Prog (TpuEff nD τ sig (Elt F) Λ₀ .tc) α} {k : α → Prog (TpuEff nD τ sig (Elt F) Λ₀ .tc) β}
    {P : sProp 𝕄} {Mid : sProp 𝕄} {Q : β → sProp 𝕄}
    (h1 : P ⊢ wp frame (wpE (defs₀ (F := F)) 𝒱₀ (c : Thread nD τ) none) Set.univ p (fun _ => Mid))
    (h2 : ∀ x, Mid ⊢ wp frame (wpE (defs₀ (F := F)) 𝒱₀ (c : Thread nD τ) none) Set.univ (k x) Q) :
    P ⊢ wp frame (wpE (defs₀ (F := F)) 𝒱₀ (c : Thread nD τ) none) Set.univ (p.bind k) Q := by
  show P ⊢ wp frame (wpE (defs₀ (F := F)) 𝒱₀ (c : Thread nD τ) none) Set.univ (p >>= k) Q
  rw [wp_bind]
  exact h1.trans (wp_mono _ _ _ fun x => h2 x)

section Body

variable (i : grid0.Coords) (arg2 : Memref sig .tc .vmem S32x128 .f32) (harg2 : arg2.IsWhole) (arg3 : Memref sig .tc .hbm S256x32x16x128 .f32) (harg3 : arg3.IsWhole) (arg4 : Memref sig .tc .hbm S256x32x16x128 .f32) (harg4 : arg4.IsWhole) (arg5 : Memref sig .tc .vmem S32x256 .i32) (harg5 : arg5.IsWhole) (arg6 : Memref sig .tc .vmem S1x96x128 .bf16) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S1x32x8192 .f32) (harg10 : arg10.IsWhole) (arg11 : Memref sig .tc .vmem S2x256x32x128 .f32) (harg11 : arg11.IsWhole) (arg12 : Memref sig .tc .vmem S2x256x32x128 .f32) (harg12 : arg12.IsWhole) (arg13 : DmaSems sig S2x1) (arg14 : DmaSems sig S2x1)
variable (c : Dev nD) (fK : arg3.view.ty.Contents (Elt F)) (fV : arg4.view.ty.Contents (Elt F))
variable (q : Vec F S32x128 .f32) (bt : Vec F S32x256 .i32) (w : Vec F S1x32x8192 .f32)

abbrev keys : Vec F S1x256x32x128 .f32 := headOf (arg3.view.read (Elt F) fK) (i 0)
abbrev vals : Vec F S1x256x32x128 .f32 := headOf (arg4.view.read (Elt F) fV) (i 0)

/-- What the point does not stream: its windows, the running sums, the weights. -/
def others (W : Waits sig Unit) : sProp 𝕄 :=
  iprop(has c arg2 q ∗ has c arg5 bt ∗ (∃ Y, has c arg6 Y) ∗ (∃ X, has c arg7 X) ∗ (∃ X, has c arg8 X) ∗ (∃ X, has c arg9 X)
    ∗ (∃ X, ⌜(i 0).val ≠ 0 → X = w⌝ ∗ has c arg10 X) ∗ owes (c : Thread nD τ) (oweB0 c) W ∗ levAts L lv)

/-- The same with the weights made. -/
def others1 (W : Waits sig Unit) : sProp 𝕄 :=
  iprop(has c arg2 q ∗ has c arg5 bt ∗ (∃ Y, has c arg6 Y) ∗ (∃ X, has c arg7 X) ∗ (∃ X, has c arg8 X) ∗ (∃ X, has c arg9 X)
    ∗ has c arg10 w ∗ owes (c : Thread nD τ) (oweB0 c) W ∗ levAts L lv)

/-- And the running sums begun. -/
def others2 (W : Waits sig Unit) : sProp 𝕄 :=
  iprop(has c arg2 q ∗ has c arg5 bt ∗ (∃ Y, has c arg6 Y) ∗ has c arg7 k0_pay89 ∗ has c arg8 k0_pay90 ∗ has c arg9 k0_pay91
    ∗ has c arg10 w ∗ owes (c : Thread nD τ) (oweB0 c) W ∗ levAts L lv)

theorem hz2 : (![0, 0] : Fin 2 → ℕ) = fun _ => 0 := funext fun a => by fin_cases a <;> rfl

/-- A buffer begun anew: what it held is read and forgotten. -/
theorem wp_begin {s : Shape} {e : EltTy} {sp : CoreSpace} (m : Memref sig .tc sp s e) {off off' : Fin s.rank → ℕ} (ho : off = fun _ => 0) (ho' : off' = fun _ => 0)
    {inb : ∀ a, off a + s.size a ≤ s.size a} {inb' : ∀ a, off' a + s.size a ≤ s.size a}
    {hl : m.view.LoadsAt (Rect.unit (s := s) off s.size inb).toLoadRect}
    {v : s.Idx → Elt F e} {hx : (m.access (Rect.unit (s := s) off' s.size inb')).Stores Finset.univ} {hm}
    {α : Type} {Q : α → sProp 𝕄} {k : PUnit → Prog (TpuEff nD τ sig (Elt F) Λ₀ .tc) α} :
    iprop(∃ X, has c m X) ⊢ iprop((has c m v -∗ wp frame (wpE (defs₀ (F := F)) 𝒱₀ (c : Thread nD τ) none) Set.univ (k ⟨⟩) Q)
      -∗ wp frame (wpE (defs₀ (F := F)) 𝒱₀ (c : Thread nD τ) none) Set.univ
          (.op (.load m (Rect.unit (s := s) off s.size inb).toLoadRect hl) fun _ => .op (.store m (Rect.unit (s := s) off' s.size inb') v Finset.univ hx hm) k) Q) := by
  iintro ⟨%X, H⟩ Hk
  iapply (wp_get_all c m ho X) $$ H
  iintro H
  iapply (wp_put_all c m ho' X) $$ H
  iexact Hk

set_option maxHeartbeats 1600000 in
theorem sound41 (W : Waits sig Unit) (hw : (i 0).val = 0 → weights bt = w) :
    iprop(between arg3 arg11 arg13 c fK (i 0).val ∗ between arg4 arg12 arg14 c fV (i 0).val ∗ others i arg2 arg5 arg6 arg7 arg8 arg9 arg10 c q bt w W)
      ⊢ wp frame (wpE (defs₀ (F := F)) 𝒱₀ c none) Set.univ (k0_part41 i arg2 harg2 arg3 harg3 arg4 harg4 arg5 harg5 arg6 harg6 arg7 harg7 arg8 harg8 arg9 harg9 arg10 harg10 arg11 harg11 arg12 harg12 arg13 arg14)
        (fun _ => iprop((inflight arg3 arg11 arg13 c fK (par (i 0).val) (i 0) ∗ next arg3 arg11 arg13 c fK ((i 0).val + 1))
          ∗ (inflight arg4 arg12 arg14 c fV (par (i 0).val) (i 0) ∗ next arg4 arg12 arg14 c fV ((i 0).val + 1)) ∗ others2 arg2 arg5 arg6 arg7 arg8 arg9 arg10 c q bt w W)) := by
  have hi1 := snd_zero i
  have h4 := cond4 i
  simp only [k0_part41_eq_skeleton]
  unfold k0_part41_skel
  simp only [part40_eq, Prog.lift, Prog.bind_op, Prog.bind_ret, Prog.pure_eq_ret, Prog.bind_assoc]
  unfold others others2
  by_cases h0 : (i 0).val = 0
  · have h1 := (cond1_iff i).mpr h0
    have h2 := (cond2_iff i).mpr (by omega)
    have h3 := (cond3_iff i).mpr h0
    rw [dif_pos h1, dif_pos h2, dif_pos h3, dif_pos h4]
    have h16 : (i 0).val + 1 < 16 := by omega
    rw [between_start _ _ _ _ _ (i 0).val h0, between_start _ _ _ _ _ (i 0).val h0]
    unfold next; rw [dif_pos h16, dif_pos h16]
    obtain rfl := hw h0
    iintro ⟨⟨HK, HKf⟩, ⟨HV, HVf⟩, Hq, Hbt, Ho, Ha, Hm, Hl, ⟨%X, %hX, Hw⟩, HO, #Hlev⟩
    iapply (wp_fill arg3 arg11 arg13 c fK (par (i 0).val) (i 0) (srcM_eq _ _ _ _ ((k0_off3_eq i).trans (by rw [hi1]; try rfl)))
      (dstM_eq _ _ _ _ ((k0_off2_eq i).trans (by rw [hi1]; try rfl))) (semM_eq _ _ _ _ ((k0_off1_eq i).trans (by rw [hi1]; try rfl)))) $$ HK
    iintro HK
    iapply (wp_fill arg4 arg12 arg14 c fV (par (i 0).val) (i 0) (srcM_eq _ _ _ _ ((k0_off3_eq i).trans (by rw [hi1]; try rfl)))
      (dstM_eq _ _ _ _ ((k0_off2_eq i).trans (by rw [hi1]; try rfl))) (semM_eq _ _ _ _ ((k0_off1_eq i).trans (by rw [hi1]; try rfl)))) $$ HV
    iintro HV
    iapply (wp_fill arg3 arg11 arg13 c fK (par ((i 0).val + 1)) ⟨(i 0).val + 1, h16⟩ (srcM_eq _ _ _ _ ((k0_off6_eq i).trans (by rw [hi1]; try rfl)))
      (dstM_eq _ _ _ _ ((k0_off5_eq i).trans (by rw [hi1]; try rfl))) (semM_eq _ _ _ _ ((k0_off4_eq i).trans (by rw [hi1]; try rfl)))) $$ HKf
    iintro HKf
    iapply (wp_fill arg4 arg12 arg14 c fV (par ((i 0).val + 1)) ⟨(i 0).val + 1, h16⟩ (srcM_eq _ _ _ _ ((k0_off6_eq i).trans (by rw [hi1]; try rfl)))
      (dstM_eq _ _ _ _ ((k0_off5_eq i).trans (by rw [hi1]; try rfl))) (semM_eq _ _ _ _ ((k0_off4_eq i).trans (by rw [hi1]; try rfl)))) $$ HVf
    iintro HVf
    iapply (wp_get_all c arg5 hz2 bt) $$ Hbt; iintro Hbt
    iapply (wp_get_all c arg10 hz3 X) $$ Hw; iintro Hw
    iapply (wp_put_all c arg10 hz3 X) $$ Hw; iintro Hw
    iapply (wp_begin c arg7 hz2 hz2) $$ Ha; iintro Ha
    iapply (wp_begin c arg8 hz2 hz2) $$ Hm; iintro Hm
    iapply (wp_begin c arg9 hz2 hz2) $$ Hl; iintro Hl
    rw [wp_ret]
    imodintro
    isplitl [HK HKf]
    · isplitl [HK] <;> iassumption
    isplitl [HV HVf]
    · isplitl [HV] <;> iassumption
    isplitl [Hq]; · iexact Hq
    isplitl [Hbt]; · iexact Hbt
    isplitl [Ho]; · iexact Ho
    isplitl [Ha]; · iexact Ha
    isplitl [Hm]; · iexact Hm
    isplitl [Hl]; · iexact Hl
    isplitl [Hw]; · iexact Hw
    isplitl [HO]; · iexact HO
    iexact Hlev
  · have h1 := mt (cond1_iff i).mp h0
    have h3 := mt (cond3_iff i).mp h0
    rw [dif_neg h1]
    rw [between_pos _ _ _ _ _ (i 0) h0, between_pos _ _ _ _ _ (i 0) h0]
    unfold sent next
    by_cases h16 : (i 0).val + 1 < 16
    · have h2 := (cond2_iff i).mpr h16
      rw [dif_pos h2, dif_neg h3, dif_pos h4, dif_pos h16, dif_pos h16]
      iintro ⟨⟨HK, HKf⟩, ⟨HV, HVf⟩, Hq, Hbt, Ho, Ha, Hm, Hl, ⟨%X, %hX, Hw⟩, HO, #Hlev⟩
      obtain rfl := hX h0
      iapply (wp_fill arg3 arg11 arg13 c fK (par ((i 0).val + 1)) ⟨(i 0).val + 1, h16⟩ (srcM_eq _ _ _ _ ((k0_off6_eq i).trans (by rw [hi1]; try rfl)))
        (dstM_eq _ _ _ _ ((k0_off5_eq i).trans (by rw [hi1]; try rfl))) (semM_eq _ _ _ _ ((k0_off4_eq i).trans (by rw [hi1]; try rfl)))) $$ HKf
      iintro HKf
      iapply (wp_fill arg4 arg12 arg14 c fV (par ((i 0).val + 1)) ⟨(i 0).val + 1, h16⟩ (srcM_eq _ _ _ _ ((k0_off6_eq i).trans (by rw [hi1]; try rfl)))
        (dstM_eq _ _ _ _ ((k0_off5_eq i).trans (by rw [hi1]; try rfl))) (semM_eq _ _ _ _ ((k0_off4_eq i).trans (by rw [hi1]; try rfl)))) $$ HVf
      iintro HVf
      iapply (wp_begin c arg7 hz2 hz2) $$ Ha; iintro Ha
      iapply (wp_begin c arg8 hz2 hz2) $$ Hm; iintro Hm
      iapply (wp_begin c arg9 hz2 hz2) $$ Hl; iintro Hl
      rw [wp_ret]
      imodintro
      isplitl [HK HKf]
      · isplitl [HK] <;> iassumption
      isplitl [HV HVf]
      · isplitl [HV] <;> iassumption
      isplitl [Hq]; · iexact Hq
      isplitl [Hbt]; · iexact Hbt
      isplitl [Ho]; · iexact Ho
      isplitl [Ha]; · iexact Ha
      isplitl [Hm]; · iexact Hm
      isplitl [Hl]; · iexact Hl
      isplitl [Hw]; · iexact Hw
      isplitl [HO]; · iexact HO
      iexact Hlev
    · have h2 := mt (cond2_iff i).mp h16
      rw [dif_neg h2, dif_neg h3, dif_pos h4, dif_neg h16, dif_neg h16]
      iintro ⟨⟨HK, HKf⟩, ⟨HV, HVf⟩, Hq, Hbt, Ho, Ha, Hm, Hl, ⟨%X, %hX, Hw⟩, HO, #Hlev⟩
      obtain rfl := hX h0
      iapply (wp_begin c arg7 hz2 hz2) $$ Ha; iintro Ha
      iapply (wp_begin c arg8 hz2 hz2) $$ Hm; iintro Hm
      iapply (wp_begin c arg9 hz2 hz2) $$ Hl; iintro Hl
      rw [wp_ret]
      imodintro
      isplitl [HK HKf]
      · isplitl [HK] <;> iassumption
      isplitl [HV HVf]
      · isplitl [HV] <;> iassumption
      isplitl [Hq]; · iexact Hq
      isplitl [Hbt]; · iexact Hbt
      isplitl [Ho]; · iexact Ho
      isplitl [Ha]; · iexact Ha
      isplitl [Hm]; · iexact Hm
      isplitl [Hl]; · iexact Hl
      isplitl [Hw]; · iexact Hw
      isplitl [HO]; · iexact HO
      iexact Hlev

set_option maxHeartbeats 3200000 in
theorem sound_attn (W : Waits sig Unit) (hw : (i 0).val = 0 → weights bt = w)
    (hK : ∀ p, ¬ IsRecv (.dma (semM arg13 p))) (hV : ∀ p, ¬ IsRecv (.dma (semM arg14 p))) :
    iprop(between arg3 arg11 arg13 c fK (i 0).val ∗ between arg4 arg12 arg14 c fV (i 0).val ∗ others i arg2 arg5 arg6 arg7 arg8 arg9 arg10 c q bt w W)
      ⊢ wp frame (wpE (defs₀ (F := F)) 𝒱₀ c none) Set.univ (cc0__attn_body i arg2 harg2 arg3 harg3 arg4 harg4 arg5 harg5 arg6 harg6 arg7 harg7 arg8 harg8 arg9 harg9 arg10 harg10 arg11 harg11 arg12 harg12 arg13 arg14)
        (fun _ => iprop(between arg3 arg11 arg13 c fK ((i 0).val + 1) ∗ between arg4 arg12 arg14 c fV ((i 0).val + 1)
          ∗ has c arg2 q ∗ has c arg5 bt ∗ has c arg6 (block w q (keys i arg3 fK) (vals i arg4 fV)) ∗ (∃ X, has c arg7 X) ∗ (∃ X, has c arg8 X) ∗ (∃ X, has c arg9 X)
          ∗ has c arg10 w ∗ ∃ W', owes (c : Thread nD τ) (oweB0 c) W')) := by
  have hi1 := snd_zero i
  have h5 := cond5 i
  simp only [cc0__attn_body_eq_skeleton]; unfold cc0__attn_body_skel
  refine wp_seq (sound41 i arg2 harg2 arg3 harg3 arg4 harg4 arg5 harg5 arg6 harg6 arg7 harg7 arg8 harg8 arg9 harg9 arg10 harg10 arg11 harg11 arg12 harg12 arg13 arg14 c fK fV q bt w W hw) fun x => ?_
  obtain ⟨x1, x2⟩ := x
  simp only [k0_part42_eq_skeleton]
  unfold k0_part42_skel
  simp only [Prog.lift, Prog.bind_op, Prog.bind_ret, Prog.pure_eq_ret, Prog.bind_assoc]
  rw [dif_pos h5]
  unfold others2
  iintro ⟨⟨HK, HKn⟩, ⟨HV, HVn⟩, Hq, Hbt, ⟨%Y, Ho⟩, Ha, Hm, Hl, Hw, HO, #Hlev⟩
  iapply (wp_arrive arg3 arg11 arg13 c fK (par (i 0).val) (i 0) (semM_eq _ _ _ _ ((k0_off7_eq i).trans (by rw [hi1]; try rfl))) (oweB0 c) W
    (dstM_eq _ _ _ _ ((k0_off8_eq i).trans (by rw [hi1]; try rfl)))) $$ [HK HO]
  · isplitl [HK]; · iexact HK
    isplitl [HO]; · iexact HO
    iapply (mayWait_stage c _ (hK _) (oweB0 c) (.inl rfl)); iexact Hlev
  iintro ⟨HK, HO⟩
  iapply (wp_arrive arg4 arg12 arg14 c fV (par (i 0).val) (i 0) (semM_eq _ _ _ _ ((k0_off7_eq i).trans (by rw [hi1]; try rfl))) (oweB0 c) _
    (dstM_eq _ _ _ _ ((k0_off8_eq i).trans (by rw [hi1]; try rfl)))) $$ [HV HO]
  · isplitl [HV]; · iexact HV
    isplitl [HO]; · iexact HO
    iapply (mayWait_stage c _ (hV _) (oweB0 c) (.inl rfl)); iexact Hlev
  iintro ⟨HV, HO⟩
  iapply (wp_get_all c arg10 ((k0_off10_eq i).trans (by rw [hi1]; exact hz3)) w) $$ Hw; iintro Hw
  iapply (wp_get_all c arg2 hz2 q) $$ Hq; iintro Hq
  iapply (wp_look arg3 arg11 arg13 c fK (par (i 0).val) (i 0) ((k0_off11_eq i).trans (by rw [hi1]; try rfl))) $$ HK; iintro HK
  iapply (wp_look arg4 arg12 arg14 c fV (par (i 0).val) (i 0) ((k0_off11_eq i).trans (by rw [hi1]; try rfl))) $$ HV; iintro HV
  iapply (wp_get c arg8 _) $$ Hm; iintro Hm
  iapply (wp_get c arg9 _) $$ Hl; iintro Hl
  iapply (wp_get_all c arg7 hz2 _) $$ Ha; iintro Ha
  iapply (wp_get_all c arg7 hz2 _) $$ Ha; iintro Ha
  iapply (wp_put_all c arg7 hz2 _) $$ Ha; iintro Ha
  iapply (wp_get_all c arg8 hz2 _) $$ Hm; iintro Hm
  iapply (wp_put_all c arg8 hz2 _) $$ Hm; iintro Hm
  iapply (wp_get_all c arg9 hz2 _) $$ Hl; iintro Hl
  iapply (wp_put_all c arg9 hz2 _) $$ Hl; iintro Hl
  iapply (wp_get_all c arg7 hz2 _) $$ Ha; iintro Ha
  iapply (wp_get c arg6 _) $$ Ho; iintro Ho
  iapply (wp_put c arg6 _) $$ Ho; iintro %Y1 %hY1 Ho
  iapply (wp_get_all c arg8 hz2 _) $$ Hm; iintro Hm
  iapply (wp_get c arg6 _) $$ Ho; iintro Ho
  iapply (wp_put c arg6 _) $$ Ho; iintro %Y2 %hY2 Ho
  iapply (wp_get_all c arg9 hz2 _) $$ Hl; iintro Hl
  iapply (wp_get c arg6 _) $$ Ho; iintro Ho
  iapply (wp_put c arg6 _) $$ Ho; iintro %Y3 %hY3 Ho
  have hY : Y3 = block w q (keys i arg3 fK) (vals i arg4 fV) := block_puts w q _ _ hY1 hY2 hY3
  subst hY
  rw [wp_ret]
  imodintro
  rw [between_succ, between_succ]
  isplitl [HK HKn]
  · isplitl [HKn] <;> iassumption
  isplitl [HV HVn]
  · isplitl [HVn] <;> iassumption
  isplitl [Hq]; · iexact Hq
  isplitl [Hbt]; · iexact Hbt
  isplitl [Ho]; · iexact Ho
  isplitl [Ha]; · iexists _; iexact Ha
  isplitl [Hm]; · iexists _; iexact Hm
  isplitl [Hl]; · iexists _; iexact Hl
  isplitl [Hw]; · iexact Hw
  iexists _; iexact HO

end Body

end Cert.Attn

end
-- ==== Proof.Segs.lean ====
/-
The two calls as segments of the whole program: what each call's windows and scratch buffers hold from point to point,
and each body's obligation discharged.
-/
module

public import proofs.«01_k».proof.Proof.AttnBody
public import proofs.«01_k».proof.Proof.Gen.KernelIdeal.Regions
public import Idealize.ShloMosaic.Lib.Pipeline.RegionTalk
public import Idealize.ShloMosaic.Lib.Pipeline.CollectiveSegs

@[expose] public section

noncomputable section

namespace Cert.Whole

open Cert.KernelIdeal Cert.KernelIdeal.Gen Cert.Gather Cert.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## What the attention reads -/

/-- A device's keys and values, as the call finds them. -/
def kAt (c : Dev nD) : Buf (Elt F) ((c : Thread nD τ).loc main_arg1) := V3 m c main_arg1
def vAt (c : Dev nD) : Buf (Elt F) ((c : Thread nD τ).loc main_arg2) := V3 m c main_arg2
/-- Its table, staged; its queries at a point, staged. -/
def tbl (c : Dev nD) (t : Fin cfg0.N) : Vec F S32x256 .i32 := (win0_1.blk t).view.read (Elt F) (V3 m c main_v21)
def qry (c : Dev nD) (t : Fin cfg0.N) : Vec F S32x128 .f32 := (win0_0.blk t).view.read (Elt F) (V3 m c main_v22)
/-- The weights made of the table. -/
def wts (c : Dev nD) : Vec F S1x32x8192 .f32 := weights (tbl m c t0_0)
/-- What a point leaves. -/
def piece (c : Dev nD) (t : Fin cfg0.N) : Vec F S1x96x128 .bf16 :=
  block (wts m c) (qry m c t) (headOf (kAt m c) ((grid0.coords t) 0)) (headOf (vAt m c) ((grid0.coords t) 0))

/-- The buffers the attention leaves alone. -/
def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_scratch0), ((c : Thread nD τ).loc cc1_scratch0) ↦{fullShare} f))

/-- Before point `n` of the attention. -/
def Φ0 (c : Dev nD) (n : ℕ) : sProp 𝕄 :=
  iprop(between (Memref.whole main_arg1) (Memref.whole cc0_scratch4) cc0_scratch6 c (kAt m c) n
    ∗ between (Memref.whole main_arg2) (Memref.whole cc0_scratch5) cc0_scratch7 c (vAt m c) n
    ∗ (∃ X, has c (Memref.whole cc0_scratch0) X) ∗ (∃ X, has c (Memref.whole cc0_scratch1) X) ∗ (∃ X, has c (Memref.whole cc0_scratch2) X)
    ∗ (∃ X, ⌜n ≠ 0 → X = wts m c⌝ ∗ has c (Memref.whole cc0_scratch3) X)
    ∗ levAts L lv ∗ (∃ r, prngReg c r) ∗ others0 c)

def dat0 (c : Dev nD) : Dat τ (Elt F) Unit ℕ UU ℕ cfg0 c where
  A w := V3 m c (Proc.devRef .tc (Pipeline.arrRef spec0 w))
  after w t := match w with
    | ⟨0, _⟩ => qry m c t
    | ⟨1, _⟩ => tbl m c t
    | ⟨2, _⟩ => piece m c t
  Φ t := Φ0 m c t.val
  q _ := fullShare
  owed _ := oweB0 c

/-! ## What the gather reads and leaves -/

/-- The partials of device `c`, as the attention leaves them. -/
def mid (c : Dev nD) : Buf (Elt F) ((c : Thread nD τ).loc main_v23) := (dat0 m c).arrAt (2 : Fin 3) cfg0.N
def W4 (c : Dev nD) : Valuation τ sig (Elt F) := Function.update (V3 m c) main_v23 (mid m c)
def part (c : Dev nD) : Part F := (win1_0.blk (0 : Fin 1)).view.read (Elt F) (W4 m c main_v23)

/-- The buffers the gather leaves alone. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f))

def Φ1a (c : Dev nD) : sProp 𝕄 := iprop(start (part m) c ∗ (∃ f, commPts c f) ∗ (∃ r, prngReg c r) ∗ others1 c)
def Φ1b (c : Dev nD) : sProp 𝕄 := iprop(cleared c ∗ commPts c (commAt (part m) c) ∗ (∃ r, prngReg c r) ∗ others1 c)

def dat1 (c : Dev nD) : Dat τ (Elt F) Unit ℕ UU ℕ cfg1 c where
  A w := W4 m c (Proc.devRef .tc (Pipeline.arrRef spec1 w))
  after w _ := match w with
    | ⟨0, _⟩ => part m c
    | ⟨1, _⟩ => outAt (part m) c
  Φ t := match t with
    | ⟨0, _⟩ => Φ1a m c
    | ⟨_ + 1, _⟩ => Φ1b m c
  q _ := fullShare
  owed t := match t with
    | ⟨0, _⟩ => oweB0 c
    | ⟨_ + 1, _⟩ => 0

def fin (c : Dev nD) : Buf (Elt F) ((c : Thread nD τ).loc main_v24) := (dat1 m c).arrAt (1 : Fin 2) cfg1.N
def W5 (c : Dev nD) : Valuation τ sig (Elt F) := Function.update (W4 m c) main_v24 (fin m c)

def pdats : (p : Fin 2) → (c : Dev nD) → Dat τ (Elt F) Unit ℕ UU ℕ (cfgs p) c
  | 0 => dat0 m
  | 1 => dat1 m

/-! ## The attention's body obligation -/

theorem coord_zero (t : Fin cfg0.N) : ((grid0.coords t) 0).val = t.val := by
  revert t; decide +kernel

omit [FloatOps F] [Named F] in
theorem owesAt_intro {cfg : Cfg sig Λ₀} {c : Dev nD} (dat : Dat τ (Elt F) Unit ℕ UU ℕ cfg c) (t : Fin (cfg.N + 1))
    (O : CellTallies nD τ sig Unit) (h : dat.owed t = O) (hr : dat.recorded t = Set.univ) (W : Waits sig Unit) :
    (owes (c : Thread nD τ) O W : sProp 𝕄) ⊢ dat.owesAt () t := by
  unfold Dat.owesAt Pipeline.owesWithin Dat.bound; rw [h, hr]
  iintro HO; iexists W; isplitr
  · ipureintro; exact fun _ _ => Or.inl trivial
  iexact HO
omit [FloatOps F] [Named F] in
theorem owesAt_elim {cfg : Cfg sig Λ₀} {c : Dev nD} (dat : Dat τ (Elt F) Unit ℕ UU ℕ cfg c) (t : Fin (cfg.N + 1))
    (O : CellTallies nD τ sig Unit) (h : dat.owed t = O) :
    (dat.owesAt () t : sProp 𝕄) ⊢ iprop(∃ W, owes (c : Thread nD τ) O W) := by
  unfold Dat.owesAt Pipeline.owesWithin; rw [h]
  iintro ⟨%W, -, HO⟩; iexists W; iexact HO

theorem before_q (c : Dev nD) (t : Fin cfg0.N) (d) : (dat0 m c).before (0 : Fin 3) t d = qry m c t :=
  (Dat.before_in_eq_fetched (dat0 m c) (0 : Fin 3) rfl (fun _ => rfl) (fun _ _ _ => rfl) (fun _ => rfl) t d).trans rfl
theorem before_t (c : Dev nD) (t : Fin cfg0.N) (d) : (dat0 m c).before (1 : Fin 3) t d = tbl m c t :=
  (Dat.before_in_eq_fetched (dat0 m c) (1 : Fin 3) rfl (fun _ => rfl) (fun _ _ _ => rfl) (fun _ => rfl) t d).trans rfl

theorem idle0_2 (t : Fin cfg0.N) : cfg0.idle (2 : Fin 3) (cfg0.grid.coords t) = false := by
  show (!(k0_cond5 (grid0.coords t) == 1#1)) = false
  rw [cond5]; rfl

/-- The semaphores of the two local copies are not those that count arrivals. -/
theorem not_recv6 (p : Fin 2) : ¬ IsRecv (.dma (semM cc0_scratch6 p)) := by revert p; decide
theorem not_recv7 (p : Fin 2) : ¬ IsRecv (.dma (semM cc0_scratch7 p)) := by revert p; decide

theorem keys_whole (i : grid0.Coords) (c : Dev nD) : keys i (Memref.whole main_arg1) (kAt m c) = headOf (kAt m c) (i 0) := rfl
theorem vals_whole (i : grid0.Coords) (c : Dev nD) : vals i (Memref.whole main_arg2) (vAt m c) = headOf (vAt m c) (i 0) := rfl

def pre0 (c : Dev nD) (t : Fin cfg0.N) : sProp 𝕄 :=
  iprop(Φ0 m c t.val ∗ (dat0 m c).owesAt () t.castSucc
    ∗ (∃ d, has c (st0_0 t) ((dat0 m c).before (0 : Fin 3) t d)) ∗ (∃ d, has c (st0_1 t) ((dat0 m c).before (1 : Fin 3) t d))
    ∗ (∃ d, has c (st0_2 t) ((dat0 m c).before (2 : Fin 3) t d)))
def post0 (c : Dev nD) (t : Fin cfg0.N) : sProp 𝕄 :=
  iprop(Φ0 m c (t.val + 1) ∗ (dat0 m c).owesAt () t.succ
    ∗ has c (st0_0 t) (qry m c t) ∗ has c (st0_1 t) (tbl m c t) ∗ has c (st0_2 t) (piece m c t))

theorem run0 (c : Dev nD) (t : Fin cfg0.N) :
    pre0 m c t ⊢ wp frame (wpE (defs₀ (F := F)) 𝒱₀ c none) Set.univ (bodyAt0 t) (fun _ => post0 m c t) := by
  have hc := coord_zero t
  unfold pre0 Φ0
  iintro ⟨⟨HK, HV, Ha, Hm, Hl, Hw, #Hlev, Hp, Hr⟩, HO, ⟨%d0, Hq⟩, ⟨%d1, Ht⟩, ⟨%d2, Ho⟩⟩
  rw [before_q, before_t]
  ihave HO' := (owesAt_elim (dat0 m c) _ (oweB0 c) rfl) $$ HO
  icases HO' with ⟨%W, HO⟩
  ihave Hrun := (sound_attn (grid0.coords t) (st0_0 t) (hstage0_0 ((cfg0.slots t 0).cast nbuf0_0)) (Memref.whole main_arg1) (Memref.isWhole_whole _)
    (Memref.whole main_arg2) (Memref.isWhole_whole _) (st0_1 t) (hstage0_1 ((cfg0.slots t 1).cast nbuf0_1)) (st0_2 t) (hstage0_2 ((cfg0.slots t 2).cast nbuf0_2))
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 cc0_scratch7 c (kAt m c) (vAt m c) (qry m c t) (tbl m c t) (wts m c) W
    (fun h => by
      have : t = t0_0 := Fin.ext (by rw [← hc, h]; rfl)
      rw [this]; rfl) not_recv6 not_recv7) $$ [HK HV Ha Hm Hl Hw HO Hq Ht Ho]
  · unfold Cert.Attn.others
    rw [hc]
    isplitl [HK]; · iexact HK
    isplitl [HV]; · iexact HV
    isplitl [Hq]; · iexact Hq
    isplitl [Ht]; · iexact Ht
    isplitl [Ho]; · iexists _; iexact Ho
    isplitl [Ha]; · iexact Ha
    isplitl [Hm]; · iexact Hm
    isplitl [Hl]; · iexact Hl
    isplitl [Hw]; · iexact Hw
    isplitl [HO]; · iexact HO
    iexact Hlev
  iapply (wp_wand _ _ _) $$ Hrun
  iintro %_
  iintro ⟨HK, HV, Hq, Ht, Ho, Ha, Hm, Hl, Hw, ⟨%W', HO⟩⟩
  unfold post0 Φ0
  rw [hc]
  isplitl [HK HV Ha Hm Hl Hw Hp Hr]
  · isplitl [HK]; · iexact HK
    isplitl [HV]; · iexact HV
    isplitl [Ha]; · iexact Ha
    isplitl [Hm]; · iexact Hm
    isplitl [Hl]; · iexact Hl
    isplitl [Hw]
    · iexists _; isplitr
      · ipureintro; exact fun _ => rfl
      iexact Hw
    isplitr; · iexact Hlev
    isplitl [Hp] <;> iassumption
  isplitl [HO]; · iapply (owesAt_intro (dat0 m c) t.succ (oweB0 c) rfl rfl W'); iexact HO
  isplitl [Hq]; · iexact Hq
  isplitl [Ht]; · iexact Ht
  iexact Ho

theorem body0 (c : Dev nD) : BodyObligation (dat0 (F := F) m c) (defs₀ (F := F)) 𝒱₀ () Set.univ := fun t => by
  rw [bigSep_W0, bigSep_W0]
  rw [idle0_2 t]
  exact run0 m c t

end Cert.Whole

end
-- ==== Proof.Calls.lean ====
/-
The gather's obligation, and the records of the two calls: from what each is entered, and what each is left with.
-/
module

public import proofs.«01_k».proof.Proof.Segs

@[expose] public section

noncomputable section

namespace Cert.Whole

open Cert.KernelIdeal Cert.KernelIdeal.Gen Cert.Gather Cert.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## The gather's body obligation -/

omit [FloatOps F] [Named F] in
theorem has_whole (c : Dev nD) (b : Ref sig .tc) (X : b.ty.Contents (Elt F)) :
    (owns (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem before_p (c : Dev nD) (d) : (dat1 m c).before (0 : Fin 2) t1_0 d = part m c := by
  rw [Dat.before_fetched (dat1 m c) (0 : Fin 2) t1_0 (fetch1_0 t1_0)]; rfl

def pre1 (c : Dev nD) : sProp 𝕄 :=
  iprop(Φ1a m c ∗ (dat1 m c).owesAt () t1_0.castSucc
    ∗ (∃ d, has c (Memref.whole cc1_stg0_0) ((dat1 m c).before (0 : Fin 2) t1_0 d)) ∗ (∃ d, has c (Memref.whole cc1_stg1_0) ((dat1 m c).before (1 : Fin 2) t1_0 d)))
def post1 (c : Dev nD) : sProp 𝕄 :=
  iprop(Φ1b m c ∗ (dat1 m c).owesAt () t1_0.succ ∗ has c (Memref.whole cc1_stg0_0) (part m c) ∗ has c (Memref.whole cc1_stg1_0) (outAt (part m) c))

theorem run1 (c : Dev nD) : pre1 m c ⊢ wp frame (wpE (defs₀ (F := F)) 𝒱₀ c none) Set.univ
    (cc1__gather_body (Memref.whole cc1_stg0_0) (Memref.isWhole_whole _) (Memref.whole cc1_stg1_0) (Memref.isWhole_whole _)
      (Memref.whole cc1_scratch0) (Memref.isWhole_whole _) cc1_scratch1 cc1_scratch2) (fun _ => post1 m c) := by
  unfold pre1 Φ1a start
  iintro ⟨⟨⟨⟨%K, Hg⟩, Hcr, Hlev⟩, Hc, Hp, Hr⟩, HO, ⟨%d0, Hx⟩, ⟨%d1, Ho⟩⟩
  rw [before_p]
  ihave HO' := (owesAt_elim (dat1 m c) _ (oweB0 c) rfl) $$ HO
  icases HO' with ⟨%W, HO⟩
  ihave Hx' := (Entails.of_eq (has_whole c cc1_stg0_0 (part m c))) $$ Hx
  icases Hx' with ⟨%fx, %hfx, Hx⟩
  subst hfx
  ihave Ho' := (Entails.of_eq (has_whole c cc1_stg1_0 ((dat1 m c).before (1 : Fin 2) t1_0 d1))) $$ Ho
  icases Ho' with ⟨%fo, %hfo, Ho⟩
  iapply (sound_body (part m) K c W fun _ => post1 m c)
  isplitl [Hg Hcr Hlev Hc HO Hx Ho]
  · unfold bodyPre xPts oPts
    isplitl [Hx]; · iexact Hx
    isplitl [Ho]; · iexists fo; iexact Ho
    isplitl [Hc]; · iexact Hc
    isplitl [HO]; · iexact HO
    isplitl [Hg]; · iexact Hg
    isplitl [Hcr]; · iexact Hcr
    iexact Hlev
  · unfold bodyPost post1 Φ1b xPts oPts
    iintro ⟨Hx, Ho, Hc, ⟨%W', HO⟩, Hz⟩
    isplitl [Hc Hz Hp Hr]
    · isplitl [Hz]; · iexact Hz
      isplitl [Hc]; · iexact Hc
      isplitl [Hp] <;> iassumption
    isplitl [HO]; · iapply (owesAt_intro (dat1 m c) t1_0.succ 0 rfl rfl W'); iexact HO
    isplitl [Hx]
    · iapply (Entails.of_eq (has_whole c cc1_stg0_0 (part m c)).symm)
      iexists _; isplitr; · (ipureintro; rfl)
      iexact Hx
    iapply (Entails.of_eq (has_whole c cc1_stg1_0 (outAt (part m) c)).symm)
    iexists _; isplitr; · (ipureintro; rfl)
    iexact Ho

theorem body1 (c : Dev nD) : BodyObligation (dat1 (F := F) m c) (defs₀ (F := F)) 𝒱₀ () Set.univ := fun t => by
  rw [fin_N1 t]
  rw [bigSep_W1, bigSep_W1]
  exact run1 m c

/-! ## The attention's record -/

/-- The attention's own semaphores: those of its local copies. -/
abbrev osem0 : Fin 4 → SemLoc sig := fun
  | 0 => .dma (semM cc0_scratch6 0) | 1 => .dma (semM cc0_scratch6 1) | 2 => .dma (semM cc0_scratch7 0) | 3 => .dma (semM cc0_scratch7 1)

omit [FloatOps F] [Named F] in
theorem ownSems0_attn (c : Dev nD) : (Pipeline.ownSems0 (Ix := Unit) (Name := ℕ) (U := UU) (Lvl := ℕ) (Val := Elt F) (τ := τ) osem0 c : sProp 𝕄)
    = iprop(semVal ((c : Thread nD τ), .dma (semM cc0_scratch6 0)) 0 ∗ semVal ((c : Thread nD τ), .dma (semM cc0_scratch6 1)) 0
      ∗ semVal ((c : Thread nD τ), .dma (semM cc0_scratch7 0)) 0 ∗ semVal ((c : Thread nD τ), .dma (semM cc0_scratch7 1)) 0) := by
  rw [Pipeline.ownSems0_eq_of_list c osem0 [0, 1, 2, 3] (by decide) (by decide)]; rfl

/-- The arrays it reads in place. -/
abbrev inPlace : Finset (DevRef τ sig) := {Proc.devRef .tc main_arg1, Proc.devRef .tc main_arg2}

omit [FloatOps F] [Named F] in
theorem held_inPlace (c : Dev nD) (V : Valuation τ sig (Elt F)) :
    (StableHlo.held (c.tc : Thread nD τ) inPlace V : sProp 𝕄)
      = iprop((((c : Thread nD τ).loc main_arg1) ↦{fullShare} V main_arg1) ∗ (((c : Thread nD τ).loc main_arg2) ↦{fullShare} V main_arg2)) := by
  unfold StableHlo.held inPlace
  rw [bigSep_insert (by decide), bigSep_singleton]; rfl

theorem cells_inj (a : (p : Fin 2) → (pcfgs (F := F) p).Adm) : Function.Injective (Pipeline.cellOf (nD := nD) (τ := τ) (Pipeline.pin (pcfgs (F := F)) a)) := by
  rw [Subsingleton.elim a adm]; exact cellOf_inj

theorem kit0 : Pipeline.PLaunchFacts (nD := nD) (τ := τ) (pcfgs (F := F)) 0 where
  cellOf_inj := cells_inj
  win := winFacts0
  pre := Pipeline.PreFacts.none _
  block_pos := block_pos0
  arr_whole := arr_whole0
  stage_whole := stage_whole0
theorem kit1 : Pipeline.PLaunchFacts (nD := nD) (τ := τ) (pcfgs (F := F)) 1 where
  cellOf_inj := cells_inj
  win := winFacts1
  pre := Pipeline.PreFacts.none _
  block_pos := block_pos1
  arr_whole := arr_whole1
  stage_whole := stage_whole1

def Xk0 (c : Dev nD) : sProp 𝕄 :=
  iprop(Pipeline.ownSems0 (Ix := Unit) (Name := ℕ) (U := UU) (Lvl := ℕ) (Val := Elt F) (τ := τ) osem0 c ∗ levAts L lv)

theorem W4_of (c : Dev nD) (r : Ref sig .tc) (h : r ≠ main_v23) : W4 m c r = V3 m c r :=
  Function.update_of_ne (StableHlo.devRef_ne_of_ne h : (Proc.devRef .tc r : DevRef τ sig) ≠ Proc.devRef .tc main_v23) _ _
theorem W5_of (c : Dev nD) (r : Ref sig .tc) (h : r ≠ main_v24) : W5 m c r = W4 m c r :=
  Function.update_of_ne (StableHlo.devRef_ne_of_ne h : (Proc.devRef .tc r : DevRef τ sig) ≠ Proc.devRef .tc main_v24) _ _
theorem W4_v23 (c : Dev nD) : W4 m c main_v23 = mid m c := Function.update_self _ _ _
theorem W5_v24 (c : Dev nD) : W5 m c main_v24 = fin m c := Function.update_self _ _ _

theorem in0 (c : Dev nD) :
    iprop(Pipeline.scopedRest (Pipeline.pin (pcfgs (F := F)) adm 0).spec c ∗ (∃ r, prngReg c r) ∗ StableHlo.held (c.tc : Thread nD τ) inPlace (V3 m c) ∗ Xk0 c)
      ⊢ (pdats m 0 c).Φ 0 := by
  show iprop(Pipeline.scopedRest spec0 c ∗ (∃ r, prngReg c r) ∗ StableHlo.held (c.tc : Thread nD τ) inPlace (V3 m c) ∗ Xk0 c) ⊢ Φ0 m c 0
  unfold Φ0 Xk0 others0
  rw [scopedRest0_eq, held_inPlace, ownSems0_attn, between_zero, between_zero]
  iintro ⟨⟨⟨%f0, H0⟩, ⟨%f1, H1⟩, ⟨%f2, H2⟩, ⟨%f3, H3⟩, ⟨%f4, H4⟩, ⟨%f5, H5⟩, Hr⟩, Hp, ⟨HK, HV⟩, ⟨S0, S1, S2, S3⟩, Hlev⟩
  isplitl [H4 HK S0 S1]
  · iapply (rest_intro (Memref.whole main_arg1) (Memref.whole cc0_scratch4) cc0_scratch6 c (kAt m c) f4)
    simp only [srcPts, Memref.view_whole, View.set_whole]
    isplitl [H4]; · iexact H4
    isplitl [HK]; · iexact HK
    isplitl [S0] <;> iassumption
  isplitl [H5 HV S2 S3]
  · iapply (rest_intro (Memref.whole main_arg2) (Memref.whole cc0_scratch5) cc0_scratch7 c (vAt m c) f5)
    simp only [srcPts, Memref.view_whole, View.set_whole]
    isplitl [H5]; · iexact H5
    isplitl [HV]; · iexact HV
    isplitl [S2] <;> iassumption
  isplitl [H0]
  · iexists f0; iapply (Entails.of_eq (has_whole c cc0_scratch0 f0).symm); iexists f0; isplitr; · (ipureintro; rfl)
    iexact H0
  isplitl [H1]
  · iexists f1; iapply (Entails.of_eq (has_whole c cc0_scratch1 f1).symm); iexists f1; isplitr; · (ipureintro; rfl)
    iexact H1
  isplitl [H2]
  · iexists f2; iapply (Entails.of_eq (has_whole c cc0_scratch2 f2).symm); iexists f2; isplitr; · (ipureintro; rfl)
    iexact H2
  isplitl [H3]
  · iexists f3; isplitr; · (ipureintro; exact fun h => absurd rfl h)
    iapply (Entails.of_eq (has_whole c cc0_scratch3 f3).symm); iexists f3; isplitr; · (ipureintro; rfl)
    iexact H3
  isplitl [Hlev]; · iexact Hlev
  isplitl [Hp]; · iexact Hp
  iexact Hr

omit [FloatOps F] [Named F] in
theorem has_some (c : Dev nD) (b : Ref sig .tc) (X : b.ty.Contents (Elt F)) :
    (owns (c : Thread nD τ) (Memref.whole b) fullShare X : sProp 𝕄) ⊢ iprop(∃ f : Buf (Elt F) (((c : Dev nD) : Thread nD τ).loc b), ((c : Thread nD τ).loc b) ↦{fullShare} f) := by
  rw [has_whole]
  iintro ⟨%f, -, H⟩; iexists f; iexact H

theorem out0 (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) inPlace (W4 m c)
      ∗ Pipeline.ownSems0 (Ix := Unit) (Name := ℕ) (U := UU) (Lvl := ℕ) (Val := Elt F) (τ := τ) osem0 c ∗ emp) := by
  show Φ0 m c grid0.N ⊢ iprop(Pipeline.scopedRest spec0 c ∗ (∃ r, prngReg c r) ∗ StableHlo.held (c.tc : Thread nD τ) inPlace (W4 m c)
      ∗ Pipeline.ownSems0 (Ix := Unit) (Name := ℕ) (U := UU) (Lvl := ℕ) (Val := Elt F) (τ := τ) osem0 c ∗ emp)
  unfold Φ0 others0
  rw [N_0, scopedRest0_eq, held_inPlace, ownSems0_attn, W4_of m c main_arg1 (by decide), W4_of m c main_arg2 (by decide)]
  iintro ⟨HK, HV, ⟨%f0, H0⟩, ⟨%f1, H1⟩, ⟨%f2, H2⟩, ⟨%f3, -, H3⟩, -, Hp, Hr⟩
  ihave HK1 := (between_last (Memref.whole main_arg1) (Memref.whole cc0_scratch4) cc0_scratch6 c (kAt m c)) $$ HK
  ihave HK2 := (rest_elim (Memref.whole main_arg1) (Memref.whole cc0_scratch4) cc0_scratch6 c (kAt m c)) $$ HK1
  ihave HV1 := (between_last (Memref.whole main_arg2) (Memref.whole cc0_scratch5) cc0_scratch7 c (vAt m c)) $$ HV
  ihave HV2 := (rest_elim (Memref.whole main_arg2) (Memref.whole cc0_scratch5) cc0_scratch7 c (vAt m c)) $$ HV1
  simp only [srcPts, Memref.view_whole, View.set_whole]
  icases HK2 with ⟨⟨%g4, H4⟩, HK, S0, S1⟩
  icases HV2 with ⟨⟨%g5, H5⟩, HV, S2, S3⟩
  isplitl [H0 H1 H2 H3 H4 H5 Hr]
  · isplitl [H0]; · iapply (has_some c cc0_scratch0 f0); iexact H0
    isplitl [H1]; · iapply (has_some c cc0_scratch1 f1); iexact H1
    isplitl [H2]; · iapply (has_some c cc0_scratch2 f2); iexact H2
    isplitl [H3]; · iapply (has_some c cc0_scratch3 f3); iexact H3
    isplitl [H4]; · iexists g4; iexact H4
    isplitl [H5]; · iexists g5; iexact H5
    iexact Hr
  isplitl [Hp]; · iexact Hp
  isplitl [HK HV]
  · isplitl [HK]; · iexact HK
    iexact HV
  isplitl [S0 S1 S2 S3]
  · isplitl [S0]; · iexact S0
    isplitl [S1]; · iexact S1
    isplitl [S2] <;> iassumption
  iempintro

theorem cut0 (c : Dev nD) (g : GSem nD τ sig) (i : Unit) (h : 0 < oweB0 c g i) : i ∈ L g ∧ (0 : ℕ) < lv g i := by
  obtain ⟨j, rfl | rfl⟩ := oweB0_pos h
  · exact ⟨by rw [L_tc]; exact Finset.mem_singleton_self _, by rw [lv_recv]; decide⟩
  · exact ⟨by rw [L_tc]; exact Finset.mem_singleton_self _, by rw [lv_bar]; decide⟩

theorem not_recv_stage0 : ∀ (w : Fin 3) (s : Fin (spec0 w).nbuf), ¬ IsRecv (.dma ((spec0 w).sem s)) := by decide
theorem not_recv_stage1 : ∀ (w : Fin 2) (s : Fin (spec1 w).nbuf), ¬ IsRecv (.dma ((spec1 w).sem s)) := by decide

/-- The unscoped buffers no window of the call stages. -/
abbrev beside0 : Finset (DevRef τ sig) := Pipeline.ucRefs τ sig \ Pipeline.arrRefs (τ := τ) spec0
abbrev beside1 : Finset (DevRef τ sig) := Pipeline.ucRefs τ sig \ Pipeline.arrRefs (τ := τ) spec1

theorem arr_sub0 : Pipeline.arrRefs (τ := τ) spec0 ⊆ Pipeline.ucRefs τ sig := Pipeline.arrRefs_sub_ucRefs spec0 (by decide)
theorem arr_sub1 : Pipeline.arrRefs (τ := τ) spec1 ⊆ Pipeline.ucRefs τ sig := Pipeline.arrRefs_sub_ucRefs spec1 (by decide)

theorem inPlace_sub : inPlace ⊆ beside0 := by decide
theorem v23_arr : (Proc.devRef .tc main_v23 : DevRef τ sig) ∈ Pipeline.arrRefs (τ := τ) spec0 := by decide
theorem v24_arr : (Proc.devRef .tc main_v24 : DevRef τ sig) ∈ Pipeline.arrRefs (τ := τ) spec1 := by decide

theorem arr0_end (c : Dev nD) (w : Fin 3) : (dat0 m c).arrAt w cfg0.N = W4 m c (Proc.devRef .tc (Pipeline.arrRef spec0 w)) :=
  match w with
  | 0 => ((dat0 m c).arrAt_in (0 : Fin 3) rfl _).trans (W4_of m c main_v22 (by decide)).symm
  | 1 => ((dat0 m c).arrAt_in (1 : Fin 3) rfl _).trans (W4_of m c main_v21 (by decide)).symm
  | 2 => (W4_v23 m c).symm
theorem arr1_end (c : Dev nD) (w : Fin 2) : (dat1 m c).arrAt w cfg1.N = W5 m c (Proc.devRef .tc (Pipeline.arrRef spec1 w)) :=
  match w with
  | 0 => ((dat1 m c).arrAt_in (0 : Fin 2) rfl _).trans (W5_of m c main_v23 (by decide)).symm
  | 1 => (W5_v24 m c).symm

/-! ## The gather's record -/

def Tk (c : Dev nD) : sProp 𝕄 := iprop((∃ K, ghost0 (part m) K c) ∗ credits c)

omit [FloatOps F] [Named F] in
theorem ownSems0_gather (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl

omit [FloatOps F] [Named F] in
/-- One lane's two cells opened. -/
theorem open_lane (X : Dev nD → Part F) (K : GSem nD τ sig → ℕ) (c : Dev nD) (j : Fin 3) :
    iprop(records X K ∗ lane0 c j ∗ semVal (sendCell c j) 0 ∗ semVal (recvCell c j) 0) ⊢ (|={Set.univ}=> lane c j : sProp 𝕄) := by
  unfold lane0 lane paysFor
  iintro ⟨#HR, ⟨Hpay, HoS, HoV⟩, Hs, Hv⟩
  imod (Rounds.cell_open ER (sched X) (g := sendCell c j) (Set.mem_univ (K (sendCell c j)))) $$ [HoS Hs] with ⟨HatS, #HrS⟩
  · isplitr; · iapply (inv_send X K c j); iexact HR
    isplitl [HoS] <;> iassumption
  imod (Rounds.cell_open ER (sched X) (g := recvCell c j) (Set.mem_univ (K (recvCell c j)))) $$ [HoV Hv] with ⟨HatV, #HrV⟩
  · isplitr; · iapply (inv_recv X K c j); iexact HR
    isplitl [HoV] <;> iassumption
  imodintro
  isplitl [Hpay]; · iexact Hpay
  isplitl [HatS HatV]; · isplitl [HatS] <;> iassumption
  isplitr; · iexact HrS
  iexact HrV

theorem open1 (c : Dev nD) :
    iprop(Tk m c ∗ Pipeline.ownSems0 (Ix := Unit) (Name := ℕ) (U := UU) (Lvl := ℕ) (Val := Elt F) (τ := τ) osem c ∗ levAts L lv) ⊢ (|={Set.univ}=> start (part m) c : sProp 𝕄) := by
  unfold Tk start ghost0 ghost
  rw [ownSems0_gather]
  iintro ⟨⟨⟨%K, #HR, HaB, L0, L1, L2⟩, Hcr⟩, ⟨S0, S1, S2, R0, R1, R2⟩, Hlev⟩
  imod (open_lane (part m) K c 0) $$ [L0 S0 R0] with L0
  · isplitr; · iexact HR
    isplitl [L0]; · iexact L0
    isplitl [S0] <;> iassumption
  imod (open_lane (part m) K c 1) $$ [L1 S1 R1] with L1
  · isplitr; · iexact HR
    isplitl [L1]; · iexact L1
    isplitl [S1] <;> iassumption
  imod (open_lane (part m) K c 2) $$ [L2 S2 R2] with L2
  · isplitr; · iexact HR
    isplitl [L2]; · iexact L2
    isplitl [S2] <;> iassumption
  imodintro
  isplitl [HaB L0 L1 L2]
  · iexists K
    isplitr; · iexact HR
    isplitl [HaB]; · iexact HaB
    isplitl [L0]; · iexact L0
    isplitl [L1] <;> iassumption
  isplitl [Hcr] <;> iassumption

omit [FloatOps F] [Named F] in
theorem held_none (c : Dev nD) (V : Valuation τ sig (Elt F)) : (StableHlo.held (c.tc : Thread nD τ) ∅ V : sProp 𝕄) = BI.emp := by
  unfold StableHlo.held; exact BI.bigSep_empty

theorem in1 (c : Dev nD) :
    iprop(Pipeline.scopedRest (Pipeline.pin (pcfgs (F := F)) adm 1).spec c ∗ (∃ r, prngReg c r) ∗ StableHlo.held (c.tc : Thread nD τ) ∅ (W4 m c) ∗ start (part m) c)
      ⊢ (pdats m 1 c).Φ 0 := by
  show iprop(Pipeline.scopedRest spec1 c ∗ (∃ r, prngReg c r) ∗ StableHlo.held (c.tc : Thread nD τ) ∅ (W4 m c) ∗ start (part m) c) ⊢ Φ1a m c
  unfold Φ1a others1 commPts
  rw [scopedRest1_eq]
  iintro ⟨⟨H0, H1, H2, H3, H4, H5, H6, H7, H8, H9, H10, Hc⟩, Hp, -, Hs⟩
  isplitl [Hs]; · iexact Hs
  isplitl [Hc]; · iexact Hc
  isplitl [Hp]; · iexact Hp
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem out1 (c : Dev nD) : (pdats m 1 c).Φ (Fin.last (Pipeline.pin (pcfgs (F := F)) adm 1).N)
    ⊢ iprop(Pipeline.scopedRest (Pipeline.pin (pcfgs (F := F)) adm 1).spec c ∗ (∃ r, prngReg c r) ∗ StableHlo.held (c.tc : Thread nD τ) ∅ (W5 m c)
      ∗ Pipeline.ownSems0 (Ix := Unit) (Name := ℕ) (U := UU) (Lvl := ℕ) (Val := Elt F) (τ := τ) osem c ∗ semVal (barCell c) 0) := by
  show Φ1b m c ⊢ iprop(Pipeline.scopedRest spec1 c ∗ (∃ r, prngReg c r) ∗ StableHlo.held (c.tc : Thread nD τ) ∅ (W5 m c)
      ∗ Pipeline.ownSems0 (Ix := Unit) (Name := ℕ) (U := UU) (Lvl := ℕ) (Val := Elt F) (τ := τ) osem c ∗ semVal (barCell c) 0)
  unfold Φ1b others1 commPts cleared
  rw [scopedRest1_eq, held_none, ownSems0_gather]
  iintro ⟨⟨HB, ⟨S0, S1, S2⟩, R⟩, Hc, Hp, H0, H1, H2, H3, H4, H5, H6, H7, H8, H9, H10⟩
  isplitl [Hc H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexact Hc
  isplitl [Hp]; · iexact Hp
  isplitr; · iempintro
  isplitl [S0 S1 S2 R]
  · isplitl [S0]; · iexact S0
    isplitl [S1]; · iexact S1
    isplitl [S2]; · iexact S2
    iexact R
  iexact HB

local notation "ℝ𝕊" => Pipeline.RegionSeg (pcfgs (F := F)) adm (pdats m) () defs₀ 𝒱₀ L lv

theorem off_v23 (c : Dev nD) (b : DevRef τ sig) (hb : b ∈ beside0) : W4 m c b = V3 m c b := by
  refine Function.update_of_ne (fun h => ?_) _ _
  subst h; exact (Finset.mem_sdiff.mp hb).2 v23_arr
theorem off_v24 (c : Dev nD) (b : DevRef τ sig) (hb : b ∈ beside1) : W5 m c b = W4 m c b := by
  refine Function.update_of_ne (fun h => ?_) _ _
  subst h; exact (Finset.mem_sdiff.mp hb).2 v24_arr

set_option backward.isDefEq.respectTransparency.types false in
def reg0 : ℝ𝕊 0 :=
  Pipeline.RegionSeg.ofTalk (pcfgs (F := F)) adm (pdats m) () defs₀ 𝒱₀ L lv 0 osem0 (by decide : Pipeline.OwnSemFacts spec0 osem0)
    inPlace beside0 inPlace_sub kit0 rfl (fun c => (body0 m c).loose)
    oweB0 (fun _ => 0) (fun c => (add_zero (oweB0 c)).symm) (fun _ => rfl) (fun _ => rfl) (fun c w => (by unfold Dat.share; split <;> rfl : (dat0 m c).share w = fullShare))
    (V3 m) (W4 m) (fun c b hb => off_v23 m c b (Finset.mem_sdiff.mp hb).1)
    (fun _ => iprop(emp)) (fun _ => iprop(emp)) Xk0 (fun _ => iprop(emp))
    (fun c => by unfold Xk0; iintro ⟨-, Hs, Hl⟩; imodintro; isplitl [Hs] <;> iassumption) (in0 m) (out0 m)
    (fun c => by iintro H; imodintro; iexact H)
    (fun _ => 0)
    ⟨fun c w s => by rw [L_tc]; exact Finset.mem_singleton_self _, fun c w s => (lv_other c _ (not_recv_stage0 w s) ()).le, fun c t g i h => cut0 c g i h⟩
    (fun c => Tk m c)
    (fun _ _ => rfl) (fun c w => arr0_end m c w)

theorem cut1 (c : Dev nD) (t : Fin (cfg1.N + 1)) (g : GSem nD τ sig) (i : Unit) (h : 0 < (dat1 (F := F) m c).owed t g i) : i ∈ L g ∧ (0 : ℕ) < lv g i :=
  match t, h with
  | ⟨0, _⟩, h => cut0 c g i h
  | ⟨_ + 1, _⟩, h => absurd h (Nat.lt_irrefl 0)

set_option backward.isDefEq.respectTransparency.types false in
def reg1 : ℝ𝕊 1 :=
  Pipeline.RegionSeg.ofTalk (pcfgs (F := F)) adm (pdats m) () defs₀ 𝒱₀ L lv 1 osem (by decide : Pipeline.OwnSemFacts spec1 osem)
    ∅ beside1 (Finset.empty_subset _) kit1 rfl (fun c => (body1 m c).loose)
    (fun _ => 0) oweB0 (fun c => (zero_add (oweB0 c)).symm) (fun _ => rfl) (fun _ => rfl) (fun c w => (by unfold Dat.share; split <;> rfl : (dat1 m c).share w = fullShare))
    (W4 m) (W5 m) (fun c b hb => off_v24 m c b (Finset.mem_sdiff.mp hb).1)
    (Tk m) (fun c => semVal (barCell c) 0) (start (part m)) (fun c => semVal (barCell c) 0)
    (open1 m) (in1 m) (out1 m)
    (fun c => by iintro H; imodintro; iexact H)
    (fun _ => 0)
    ⟨fun c w s => by rw [L_tc]; exact Finset.mem_singleton_self _, fun c w s => (lv_other c _ (not_recv_stage1 w s) ()).le, fun c t g i h => cut1 m c t g i h⟩
    (fun _ => iprop(emp))
    (fun _ _ => rfl) (fun c w => arr1_end m c w)

/-! ## Between the segments -/

/-- What a device holds beside its buffers before and between the calls, and after them. -/
def E : Fin 3 → Dev nD → sProp 𝕄
  | 0, c | 1, c => iprop((∃ r, prngReg c r) ∗ Tk m c ∗ ∃ W, owes (c : Thread nD τ) (oweB0 c) W)
  | 2, c => iprop(semVal (barCell c) 0 ∗ ∃ W, owes (c : Thread nD τ) (0 : CellTallies nD τ sig Unit) W)

theorem reg0_pre (c : Dev nD) : iprop(StableHlo.held (c : Thread nD τ) (Pipeline.ucRefs τ sig) (V3 m c) ∗ E m 0 c) ⊢ (reg0 m).pre c := by
  show iprop(StableHlo.held (c : Thread nD τ) (Pipeline.ucRefs τ sig) (V3 m c) ∗ (∃ r, prngReg c r) ∗ Tk m c ∗ ∃ W, owes (c : Thread nD τ) (oweB0 c) W)
    ⊢ iprop(StableHlo.held (c.tc : Thread nD τ) (Pipeline.arrRefs (τ := τ) spec0) (V3 m c) ∗ (∃ r, prngReg c r)
      ∗ (StableHlo.held (c.tc : Thread nD τ) beside0 (V3 m c) ∗ Tk m c) ∗ emp ∗ ∃ Wd, owes (c : Thread nD τ) (oweB0 c + 0) Wd)
  rw [StableHlo.held_sub_split (c.tc : Thread nD τ) arr_sub0 (V3 m c), add_zero]
  iintro ⟨⟨Ha, Hb⟩, Hp, HT, HO⟩
  isplitl [Ha]; · iexact Ha
  isplitl [Hp]; · iexact Hp
  isplitl [Hb HT]; · isplitl [Hb] <;> iassumption
  isplitr; · iempintro
  iexact HO

theorem reg0_post (c : Dev nD) : (reg0 m).post c ⊢ iprop(StableHlo.held (c : Thread nD τ) (Pipeline.ucRefs τ sig) (W4 m c) ∗ E m 1 c) := by
  show iprop(StableHlo.held (c.tc : Thread nD τ) (Pipeline.arrRefs (τ := τ) spec0) (W4 m c) ∗ (∃ r, prngReg c r)
      ∗ (StableHlo.held (c.tc : Thread nD τ) beside0 (W4 m c) ∗ Tk m c) ∗ emp ∗ ∃ Wd, owes (c : Thread nD τ) (oweB0 c) Wd)
    ⊢ iprop(StableHlo.held (c : Thread nD τ) (Pipeline.ucRefs τ sig) (W4 m c) ∗ (∃ r, prngReg c r) ∗ Tk m c ∗ ∃ W, owes (c : Thread nD τ) (oweB0 c) W)
  rw [StableHlo.held_sub_split (c.tc : Thread nD τ) arr_sub0 (W4 m c)]
  iintro ⟨Ha, Hp, ⟨Hb, HT⟩, -, HO⟩
  isplitl [Ha Hb]; · isplitl [Ha] <;> iassumption
  isplitl [Hp]; · iexact Hp
  isplitl [HT] <;> iassumption

theorem reg1_pre (c : Dev nD) : iprop(StableHlo.held (c : Thread nD τ) (Pipeline.ucRefs τ sig) (W4 m c) ∗ E m 1 c) ⊢ (reg1 m).pre c := by
  show iprop(StableHlo.held (c : Thread nD τ) (Pipeline.ucRefs τ sig) (W4 m c) ∗ (∃ r, prngReg c r) ∗ Tk m c ∗ ∃ W, owes (c : Thread nD τ) (oweB0 c) W)
    ⊢ iprop(StableHlo.held (c.tc : Thread nD τ) (Pipeline.arrRefs (τ := τ) spec1) (W4 m c) ∗ (∃ r, prngReg c r)
      ∗ (StableHlo.held (c.tc : Thread nD τ) beside1 (W4 m c) ∗ emp) ∗ Tk m c ∗ ∃ Wd, owes (c : Thread nD τ) (0 + oweB0 c) Wd)
  rw [StableHlo.held_sub_split (c.tc : Thread nD τ) arr_sub1 (W4 m c), zero_add]
  iintro ⟨⟨Ha, Hb⟩, Hp, HT, HO⟩
  isplitl [Ha]; · iexact Ha
  isplitl [Hp]; · iexact Hp
  isplitl [Hb]
  · isplitl [Hb]; · iexact Hb
    iempintro
  isplitl [HT] <;> iassumption

theorem reg1_post (c : Dev nD) : (reg1 m).post c ⊢ iprop(StableHlo.held (c : Thread nD τ) (Pipeline.ucRefs τ sig) (W5 m c) ∗ E m 2 c) := by
  show iprop(StableHlo.held (c.tc : Thread nD τ) (Pipeline.arrRefs (τ := τ) spec1) (W5 m c) ∗ (∃ r, prngReg c r)
      ∗ (StableHlo.held (c.tc : Thread nD τ) beside1 (W5 m c) ∗ emp) ∗ semVal (barCell c) 0 ∗ ∃ Wd, owes (c : Thread nD τ) (0 : CellTallies nD τ sig Unit) Wd)
    ⊢ iprop(StableHlo.held (c : Thread nD τ) (Pipeline.ucRefs τ sig) (W5 m c) ∗ semVal (barCell c) 0 ∗ ∃ W, owes (c : Thread nD τ) (0 : CellTallies nD τ sig Unit) W)
  rw [StableHlo.held_sub_split (c.tc : Thread nD τ) arr_sub1 (W5 m c)]
  iintro ⟨Ha, -, ⟨Hb, -⟩, HB, HO⟩
  isplitl [Ha Hb]; · isplitl [Ha] <;> iassumption
  isplitl [HB] <;> iassumption

end Cert.Whole

end
-- ==== Proof.Launch.lean ====
/-
The launch: the tokens and credits the gather starts from, and the run of the whole program.
-/
module

public import proofs.«01_k».proof.Proof.Calls

@[expose] public section

noncomputable section

namespace Cert.Whole

open Cert.KernelIdeal Cert.KernelIdeal.Gen Cert.Gather Cert.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## Tokens -/

/-- Which cell and duty each token of a device is for: three at its barrier, one at each copy's cell. -/
abbrev tokSem : Fin 9 → SemLoc sig := fun
  | 0 => .reg barS | 1 => .reg barS | 2 => .reg barS | 3 => .dma (sendS 0) | 4 => .dma (sendS 1) | 5 => .dma (sendS 2)
  | 6 => .dma (recvS 0) | 7 => .dma (recvS 1) | 8 => .dma (recvS 2)
abbrev tokDuty : Fin 9 → Fin 3 := fun | 1 => 1 | 2 => 2 | _ => 0
theorem tok_inj : ∀ k k' : Fin 9, tokSem k = tokSem k' → tokDuty k = tokDuty k' → k = k' := by decide
abbrev tokOf (cj : Dev nD × Fin 9) : GSem nD τ sig × ℕ × Fin 3 := (((cj.1 : Thread nD τ), tokSem cj.2), 0, tokDuty cj.2)
theorem tokOf_injective : Function.Injective (tokOf : Dev nD × Fin 9 → GSem nD τ sig × ℕ × Fin 3) := by
  rintro ⟨c, k⟩ ⟨c', k'⟩ h
  obtain rfl : c = c' := congrArg (fun x : GSem nD τ sig × ℕ × Fin 3 => x.1.1.1) h
  exact congrArg (Prod.mk c) (tok_inj k k' (congrArg (fun x : GSem nD τ sig × ℕ × Fin 3 => x.1.2) h) (congrArg (fun x => x.2.2) h))
def tokSet : Finset (GSem nD τ sig × ℕ × Fin 3) := Finset.univ.map ⟨tokOf, tokOf_injective⟩

theorem cells_apart : Disjoint (barCells : Finset (GSem nD τ sig)) scCells := by
  rw [Finset.disjoint_left]
  rintro g hb hs
  obtain ⟨c, -, rfl⟩ := Finset.mem_map.mp hb
  obtain ⟨⟨d, k⟩, -, e⟩ := Finset.mem_map.mp hs
  exact osem_ne_bar k (congrArg Prod.snd e)

/-- The tokens of the duties at a device's own cells. -/
def toks (c : Dev nD) : sProp 𝕄 :=
  iprop((dutyTok ER (barCell c) 0 0 ∗ dutyTok ER (barCell c) 0 1 ∗ dutyTok ER (barCell c) 0 2)
    ∗ (dutyTok ER (sendCell c 0) 0 0 ∗ dutyTok ER (sendCell c 1) 0 0 ∗ dutyTok ER (sendCell c 2) 0 0)
    ∗ (dutyTok ER (recvCell c 0) 0 0 ∗ dutyTok ER (recvCell c 1) 0 0 ∗ dutyTok ER (recvCell c 2) 0 0))
/-- The tokens of the duties device `c` itself pays. -/
def paid (c : Dev nD) : sProp 𝕄 :=
  iprop((dutyTok ER (barCell (up 0 c)) 0 0 ∗ dutyTok ER (barCell (up 1 c)) 0 1 ∗ dutyTok ER (barCell (up 2 c)) 0 2)
    ∗ (dutyTok ER (sendCell c 0) 0 0 ∗ dutyTok ER (sendCell c 1) 0 0 ∗ dutyTok ER (sendCell c 2) 0 0)
    ∗ (dutyTok ER (recvCell (up 0 c) 0) 0 0 ∗ dutyTok ER (recvCell (up 1 c) 1) 0 0 ∗ dutyTok ER (recvCell (up 2 c) 2) 0 0))
/-- The rights to open its own cells. -/
def opens (c : Dev nD) : sProp 𝕄 :=
  iprop(openTok ER (sendCell c 0) ∗ openTok ER (sendCell c 1) ∗ openTok ER (sendCell c 2)
    ∗ openTok ER (recvCell c 0) ∗ openTok ER (recvCell c 1) ∗ openTok ER (recvCell c 2))

omit [FloatOps F] [Named F] in
theorem toks_eq (c : Dev nD) : (bigSep Finset.univ fun k : Fin 9 => (dutyTok ER (tokOf (c, k)).1 (tokOf (c, k)).2.1 (tokOf (c, k)).2.2 : sProp 𝕄)) ⊢ toks c := by
  rw [bigSep_univ_eq_bigSepL [0, 1, 2, 3, 4, 5, 6, 7, 8] (by decide) (by decide)]
  unfold toks
  show iprop(dutyTok ER (barCell c) 0 0 ∗ dutyTok ER (barCell c) 0 1 ∗ dutyTok ER (barCell c) 0 2
    ∗ dutyTok ER (sendCell c 0) 0 0 ∗ dutyTok ER (sendCell c 1) 0 0 ∗ dutyTok ER (sendCell c 2) 0 0
    ∗ dutyTok ER (recvCell c 0) 0 0 ∗ dutyTok ER (recvCell c 1) 0 0 ∗ dutyTok ER (recvCell c 2) 0 0) ⊢ _
  iintro ⟨Ha, Hb, Hc, Hd, He, Hf, HR⟩
  isplitl [Ha Hb Hc]
  · isplitl [Ha]; · iexact Ha
    isplitl [Hb] <;> iassumption
  isplitl [Hd He Hf]
  · isplitl [Hd]; · iexact Hd
    isplitl [He] <;> iassumption
  iexact HR

omit [FloatOps F] [Named F] in
/-- Each token goes to the device that pays its duty. -/
theorem pass_tokens : (bigSep Finset.univ fun c : Dev nD => (toks c : sProp 𝕄)) ⊢ bigSep Finset.univ fun c : Dev nD => paid c := by
  unfold toks paid
  simp only [bigSep_sep']
  rw [bigSep_univ_equiv (turn 0) (fun c : Dev nD => (dutyTok ER (barCell c) 0 0 : sProp 𝕄)),
    bigSep_univ_equiv (turn 1) (fun c : Dev nD => (dutyTok ER (barCell c) 0 1 : sProp 𝕄)),
    bigSep_univ_equiv (turn 2) (fun c : Dev nD => (dutyTok ER (barCell c) 0 2 : sProp 𝕄)),
    bigSep_univ_equiv (turn 0) (fun c : Dev nD => (dutyTok ER (recvCell c 0) 0 0 : sProp 𝕄)),
    bigSep_univ_equiv (turn 1) (fun c : Dev nD => (dutyTok ER (recvCell c 1) 0 0 : sProp 𝕄)),
    bigSep_univ_equiv (turn 2) (fun c : Dev nD => (dutyTok ER (recvCell c 2) 0 0 : sProp 𝕄))]
  exact BI.Entails.refl _

omit [FloatOps F] [Named F] in
theorem tokens_around : bigSep tokSet (fun x => (dutyTok ER x.1 x.2.1 x.2.2 : sProp 𝕄)) ⊢ bigSep Finset.univ fun c : Dev nD => (paid c : sProp 𝕄) := by
  unfold tokSet; rw [bigSep_map, bigSep_univ_prod]
  exact (bigSep_mono fun c _ => toks_eq c).trans pass_tokens

omit [FloatOps F] [Named F] in
theorem opens_all : bigSep scCells (fun g => (openTok ER g : sProp 𝕄)) ⊢ bigSep Finset.univ fun c : Dev nD => (opens c : sProp 𝕄) := by
  rw [bigSep_map, bigSep_univ_prod]
  refine bigSep_mono fun c _ => ?_
  rw [bigSep_univ_eq_bigSepL [0, 1, 2, 3, 4, 5] (by decide) (by decide)]
  unfold opens; exact BI.Entails.refl _

omit [FloatOps F] [Named F] in
theorem ghost0_intro (X : Dev nD → Part F) (K : GSem nD τ sig → ℕ) (c : Dev nD) :
    iprop(records X K ∗ atPos ER (barCell c) 0 ∅ 0 ∗ opens c ∗ paid c) ⊢ (ghost0 X K c : sProp 𝕄) := by
  unfold ghost0 opens paid lane0 paysFor
  iintro ⟨#HR, Hat, ⟨OS0, OS1, OS2, OR0, OR1, OR2⟩, ⟨B0, B1, B2⟩, ⟨S0, S1, S2⟩, R0, R1, R2⟩
  isplitr; · iexact HR
  isplitl [Hat]; · iexact Hat
  isplitl [OS0 OR0 B0 S0 R0]
  · isplitl [B0 S0 R0]
    · isplitl [B0]; · iexact B0
      isplitl [S0] <;> iassumption
    isplitl [OS0] <;> iassumption
  isplitl [OS1 OR1 B1 S1 R1]
  · isplitl [B1 S1 R1]
    · isplitl [B1]; · iexact B1
      isplitl [S1] <;> iassumption
    isplitl [OS1] <;> iassumption
  isplitl [B2 S2 R2]
  · isplitl [B2]; · iexact B2
    isplitl [S2] <;> iassumption
  isplitl [OS2] <;> iassumption

/-! ## Credits -/

theorem bar_iff {j : Fin 3} {c d : Dev nD} : barCell c = barCell (up j d) ↔ d = dn j c := by
  constructor
  · intro h
    have h' : c = up j d := congrArg (fun g : GSem nD τ sig => g.1.1) h
    rw [h', dn_up]
  · rintro rfl; rw [up_dn]
theorem recv_iff {i j : Fin 3} {c d : Dev nD} : recvCell c i = recvCell (up j d) j ↔ i = j ∧ d = dn i c := by
  constructor
  · intro h
    have h1 : i = j := recv_inj (congrArg Prod.snd h)
    subst h1
    have h' : c = up i d := congrArg (fun g : GSem nD τ sig => g.1.1) h
    exact ⟨rfl, by rw [h', dn_up]⟩
  · rintro ⟨rfl, rfl⟩; rw [up_dn]

theorem owed_bar (d c : Dev nD) : oweB0 d (barCell c) () = ((if d = dn 2 c then 1 else 0) + (if d = dn 1 c then 1 else 0)) + (if d = dn 0 c then 1 else 0) := by
  rw [oweB0_apply]
  simp only [bar_iff]
  rw [if_neg (fun h => by cases congrArg Prod.snd h), if_neg (fun h => by cases congrArg Prod.snd h), if_neg (fun h => by cases congrArg Prod.snd h)]
  simp only [Nat.zero_add]

theorem owed_recv (d c : Dev nD) (i : Fin 3) : oweB0 d (recvCell c i) () = if d = dn i c then N else 0 := by
  rw [oweB0_apply]
  simp only [recv_iff]
  rw [if_neg (c := recvCell c i = barCell (up 2 d)) (fun h => by cases congrArg Prod.snd h),
    if_neg (c := recvCell c i = barCell (up 1 d)) (fun h => by cases congrArg Prod.snd h),
    if_neg (c := recvCell c i = barCell (up 0 d)) (fun h => by cases congrArg Prod.snd h)]
  match i with
  | 0 => simp
  | 1 => simp
  | 2 => simp

theorem launch_bar (c : Dev nD) :
    tallyOn (barCell c) (launchCredit (Pipeline.owing oweB0) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (dn 2 c) fun _ => 1, Finset.sum_ite_eq' Finset.univ (dn 1 c) fun _ => 1, Finset.sum_ite_eq' Finset.univ (dn 0 c) fun _ => 1,
    if_pos (Finset.mem_univ _), if_pos (Finset.mem_univ _), if_pos (Finset.mem_univ _)]

theorem launch_recv (c : Dev nD) (i : Fin 3) :
    tallyOn (recvCell c i) (launchCredit (Pipeline.owing oweB0) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ (dn i c) fun _ => N,
    if_pos (Finset.mem_univ _)]

omit [FloatOps F] [Named F] in
theorem creds (c : Dev nD) : (Pipeline.launchCred oweB0 c : sProp 𝕄) ⊢ credits c := by
  unfold Pipeline.launchCred credits
  rw [bigSep_univ_at _ (SemLoc.reg barS), launch_bar]
  refine sep_mono_right ?_
  rw [bigSep_erase (Finset.mem_erase.mpr ⟨(by decide : (SemLoc.dma (recvS 0) : SemLoc sig) ≠ .reg barS), Finset.mem_univ _⟩), launch_recv]
  refine sep_mono_right ?_
  rw [bigSep_erase (Finset.mem_erase.mpr ⟨(by decide : (SemLoc.dma (recvS 1) : SemLoc sig) ≠ .dma (recvS 0)), Finset.mem_erase.mpr
    ⟨(by decide : (SemLoc.dma (recvS 1) : SemLoc sig) ≠ .reg barS), Finset.mem_univ _⟩⟩), launch_recv]
  refine sep_mono_right ?_
  rw [← launch_recv]
  exact bigSep_elim (Finset.mem_erase.mpr ⟨by decide, Finset.mem_erase.mpr ⟨by decide, Finset.mem_erase.mpr ⟨by decide, Finset.mem_univ _⟩⟩⟩)

/-! ## What the launch holds -/

def u₀ : UU := (initOf (Pipeline.cells cfgs cellOf_inj) (Pipeline.launchToks cfgs cellOf_inj), (launchOf barCells scCells tokSet, 1))

/-- The bookkeeping's initial state, all of it dealt to device 0. -/
def G (c : Dev nD) : sProp 𝕄 := if c = 0 then BI.own (ER (launchOf barCells scCells tokSet)) else iprop(emp)

omit [FloatOps F] [Named F] in
theorem bigSep_G : bigSep Finset.univ (G (F := F)) = BI.own (ER (launchOf barCells scCells tokSet)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

omit [FloatOps F] [Named F] in
theorem unscopedSems0_eq (c : Dev nD) : (unscopedSems0 c : sProp 𝕄) = semVal (barCell c) 0 := by
  unfold unscopedSems0; rw [bigSep_eq_bigSepL_of_eq [SemLoc.reg barS] (by decide) (by decide)]; rfl

variable (m : (ℓ : Loc nD τ sig) → Buf (Elt F) ℓ) (ρ : Dev nD → PrngReg)

/-- What of a device's launch holdings is not the gather's bookkeeping. -/
def bundle (c : Dev nD) : sProp 𝕄 :=
  iprop(StableHlo.held (c : Thread nD τ) (Pipeline.ucRefs τ sig) (V0 m c) ∗ credits c ∗ owes (c : Thread nD τ) (oweB0 c) ∅ ∗ ∃ r, prngReg c r)

def T₀ (c : Dev nD) : sProp 𝕄 := iprop(StableHlo.held (c : Thread nD τ) (Pipeline.ucRefs τ sig) (V0 m c) ∗ E m 0 c)

theorem T₀_intro (K : GSem nD τ sig → ℕ) (c : Dev nD) :
    iprop(records (part m) K ∗ ((atPos ER (barCell c) 0 ∅ 0 ∗ opens c ∗ paid c) ∗ bundle m c)) ⊢ T₀ m c := by
  unfold bundle T₀ E Tk
  iintro ⟨#HR, Hl, Hh, Hcr, HO, Hp⟩
  isplitl [Hh]; · iexact Hh
  isplitl [Hp]; · iexact Hp
  isplitr [HO]
  · isplitl [Hl]
    · iexists K
      iapply (ghost0_intro (part m) K c)
      isplitr; · iexact HR
      iexact Hl
    iexact Hcr
  iexists ∅; iexact HO

theorem init :
    iprop((bigSep Finset.univ fun c : Dev nD => iprop(unscopedBufs c (fun b => m ((c : Thread nD τ).loc b)) ∗ unscopedSems0 c
          ∗ owes (c : Thread nD τ) (oweB0 c) ∅ ∗ Pipeline.launchCred oweB0 c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (oweB0 c) ∅ ∗ Pipeline.launchCred oweB0 c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) (Pipeline.ucRefs τ sig) (V0 m c) from
      Pipeline.unscopedBufs_held c (V0 m c), unscopedSems0_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hall : (bigSep Finset.univ fun c : Dev nD => iprop(unscopedBufs c (fun b => m ((c : Thread nD τ).loc b)) ∗ unscopedSems0 c
          ∗ owes (c : Thread nD τ) (oweB0 c) ∅ ∗ Pipeline.launchCred oweB0 c ∗ prngReg c (ρ c) ∗ G c))
      ⊢ (iprop(bigSep Finset.univ (bundle m) ∗ (bigSep Finset.univ fun c : Dev nD => semVal (barCell c) 0) ∗ BI.own (ER (launchOf barCells scCells tokSet))) : sProp 𝕄) := by
    refine (bigSep_mono fun c _ => hcore c).trans ?_
    rw [bigSep_sep', bigSep_sep', bigSep_G]
    exact BI.Entails.refl _
  iintro ⟨H, -⟩
  ihave H' := hall $$ H
  icases H' with ⟨HB, Hv, Hu⟩
  imod (Rounds.fund_launch ER (sched (part m)) cells_apart (fun g _ h => h) tokSet) $$ [Hv Hu] with ⟨%κ, -, #Hinv, #Hr, Hat, Hopen, Htok⟩
  · isplitl [Hv]
    · iapply hv; iexact Hv
    · iexact Hu
  imodintro
  iapply (bigSep_with_persistent (R := records (part m) κ) (Φ := fun c => iprop((atPos ER (barCell c) 0 ∅ 0 ∗ opens c ∗ paid c) ∗ bundle m c)) fun c _ => T₀_intro m κ c)
  isplitr
  · unfold records
    isplitr; · iexact Hinv
    iexact Hr
  rw [bigSep_sep', bigSep_sep', bigSep_sep']
  isplitr [HB]
  · isplitl [Hat]; · iapply hat; iexact Hat
    isplitl [Hopen]; · iapply opens_all; iexact Hopen
    iapply tokens_around; iexact Htok
  · iexact HB

/-! ## The run -/

/-- What a device's buffers hold at the end. -/
def W6 (c : Dev nD) : Valuation τ sig (Elt F) := StableHlo.after hostOps2 (W5 m c)

def seg5 : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W5 m) (E m 2)

/-- The program's items on core `c`. -/
abbrev items (c : Dev nD) : List (Pipeline.Seg (pcfgs (F := F)) adm (pdats m) () defs₀ 𝒱₀ L lv) :=
  [.host (seg0 m 𝒱₀ L lv (E m) c), .host (seg1 m 𝒱₀ L lv (E m)), .host (seg2 m 𝒱₀ L lv (E m)), .region (reg0 m), .region (reg1 m), .host (seg5 m)]

def Tₙ (c : Dev nD) : sProp 𝕄 := iprop(StableHlo.held (c : Thread nD τ) (Pipeline.ucRefs τ sig) (W6 m c) ∗ semVal (barCell c) 0)

theorem chain_end (c : Dev nD) : iprop(StableHlo.held (c : Thread nD τ) (Pipeline.ucRefs τ sig) (W6 m c) ∗ E m 2 c)
    ⊢ iprop(Tₙ m c ∗ ∃ W, owes (c : Thread nD τ) (0 : CellTallies nD τ sig Unit) W) := by
  unfold Tₙ E
  iintro ⟨Hh, HB, HO⟩
  isplitr [HO]
  · isplitl [Hh] <;> iassumption
  iexact HO

theorem only_bar : ∀ sm : SemLoc sig, sm.isScoped .tc = false → sm = .reg barS := by decide

set_option backward.isDefEq.respectTransparency.types false in
/-- Every fair run from any memory with all counters at zero ends, every unscoped buffer as computed and all counters at
    zero. -/
theorem run_main : θ_run defs (onTc (τ := τ) (main (F := F))) ⟨m, fun _ => 0, ρ⟩ (fun r =>
    (∀ c : Dev nD, ∀ b : Ref sig .tc, (Proc.devRef .tc b : DevRef τ sig) ∈ Pipeline.ucRefs τ sig → r.2.mem ((c : Thread nD τ).loc b) = W6 m c b)
      ∧ r.2.sem = fun _ => 0) := by
  refine Pipeline.θ_run_regions_kit_dev_sems (pcfgs (F := F)) adm (pdats m) () cellOf_inj EP defs₀ 𝒱₀ L lv m ρ main (items m)
    (fun c Q => by
      rewrite [main_chain c, Pipeline.Seg.run_eq_chain,
        show (items m c).map Pipeline.Seg.prog = [
          StableHlo.seq (hostOps0 c),
          StableHlo.seq hostOps0_1,
          StableHlo.seq hostOps0_2,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, Pipeline.Seg.pipes_host, Pipeline.Seg.pipes_region, Pipeline.Seg.pipes_nil]; decide) oweB0 L_of_ne G u₀
    (by
      unfold u₀
      iintro Hu
      ihave H := (ownU_pair _ _) $$ Hu
      icases H with ⟨HP, HX⟩
      imodintro
      isplitl [HP]; · iexact HP
      iapply (Entails.of_eq (bigSep_G (F := F)).symm)
      iexact HX)
    (T₀ := T₀ m) (Tₙ := Tₙ m)
    (hch := fun c => ⟨.rfl, .rfl, .rfl, reg0_pre m c, (reg0_post m c).trans (reg1_pre m c), reg1_post m c, chain_end m c⟩)
    (hinit := init m ρ)
    (QY := fun c s => (∀ b : Ref sig .tc, (Proc.devRef .tc b : DevRef τ sig) ∈ Pipeline.ucRefs τ sig → s.mem ((c : Thread nD τ).loc b) = W6 m c b)
      ∧ s.sem (barCell c) = 0)
    (hfin := fun c s' => ?_)
    (hQ := fun s h hs => ⟨fun c => (h c).1, sem_eq_zero hs fun c sm hsm => by
        obtain rfl := only_bar sm hsm
        exact (h c).2⟩)
  unfold Tₙ StableHlo.held
  iintro ⟨⟨Hh, Hb0⟩, HSI⟩
  icombine HSI Hb0 gives %hb
  ihave Hr := (pointsTo_read_all (Pipeline.ucRefs τ sig) (fun b => ((c : Thread nD τ).1, b)) (W6 m c) s') $$ [Hh HSI]
  · isplitl [Hh] <;> iassumption
  icases Hr with ⟨%h, HSI⟩
  imodintro
  isplitr
  · ipureintro
    exact ⟨fun b hm => h (Proc.devRef .tc b) hm, by simpa using hb⟩
  iexact HSI

/-! ## The arguments at the end -/

theorem uc (b : Ref sig .tc) (hb : ¬ (Proc.devRef .tc b : DevRef τ sig).isScoped) : (Proc.devRef .tc b : DevRef τ sig) ∈ Pipeline.ucRefs τ sig :=
  Finset.mem_filter.mpr ⟨StableHlo.devRef_mem_tcRefs b, hb⟩

/-- A buffer no item writes. -/
theorem kept (c : Dev nD) (b : Ref sig .tc) (h2 : b ∉ hostOps2_W) (h5 : b ≠ main_v24) (h4 : b ≠ main_v23) (h3 : b ∉ hostOps0_2_W)
    (h1 : b ∉ hostOps0_1_W) (h0 : b ∉ hostOps0_W) : W6 m c b = m ((c : Thread nD τ).loc b) :=
  (StableHlo.after_of_writes_sub hostOps2 _ hostOps2_writes h2).trans <| (W5_of m c b h5).trans <| (W4_of m c b h4).trans <|
    (V3_of m c b h3).trans <| (V2_of m c b h1).trans <| (V1_of m c b h0).trans rfl

end Cert.Whole

end
-- ==== Proof.Merge.lean ====
/-
The arithmetic of the softmax: four devices' partial sums over a page table's counts, put together, are the softmax over
the table's own keys.
-/
module

public import Idealize.ShloMosaic.PureOps.Ideal
public import Mathlib.Data.EReal.Inv

@[expose] public section

noncomputable section

namespace Cert.Value

open Idealize.ShloMosaic

/-- Four partial softmaxes put together: sums `a`, maxima `m`, weights `w`. -/
def merge (a m w : Fin 4 → EReal) : EReal :=
  Ideal.div (∑ i, Ideal.exp (m i - Finset.univ.sup m) * a i) (∑ i, Ideal.exp (m i - Finset.univ.sup m) * w i)

theorem sup_four (m : Fin 4 → EReal) : Finset.univ.sup m = max (max (max (m 0) (m 1)) (m 2)) (m 3) := by
  rw [show (Finset.univ : Finset (Fin 4)) = {0, 1, 2, 3} from by decide]
  simp only [Finset.sup_insert, Finset.sup_singleton, max_assoc]

/-- The order of the partials is immaterial. -/
theorem merge_perm (σ : Fin 4 ≃ Fin 4) (a m w : Fin 4 → EReal) : merge (fun k => a (σ k)) (fun k => m (σ k)) (fun k => w (σ k)) = merge a m w := by
  have ht : Finset.univ.sup (fun k => m (σ k)) = Finset.univ.sup m := by
    apply le_antisymm
    · exact Finset.sup_le fun k _ => Finset.le_sup (f := m) (Finset.mem_univ (σ k))
    · refine Finset.sup_le fun k _ => ?_
      have := Finset.le_sup (f := fun k => m (σ k)) (Finset.mem_univ (σ.symm k))
      simpa using this
  unfold merge
  rw [ht, Equiv.sum_comp σ (fun i => Ideal.exp (m i - _) * a i), Equiv.sum_comp σ (fun i => Ideal.exp (m i - _) * w i)]

/-- The logarithm of how often, below everything where never. -/
def logn (n : ℕ) : EReal := if 0 < (n : EReal) then Ideal.log (n : EReal) else ⊥

theorem logn_zero : logn 0 = ⊥ := by unfold logn; simp
theorem logn_pos {n : ℕ} (h : 0 < n) : logn n = ((Real.log n : ℝ) : EReal) := by
  have h1 : (0 : EReal) < (n : EReal) := by exact_mod_cast h
  unfold logn; rw [if_pos h1]
  have h2 : ¬ ((n : ℝ) ≤ 0) := by push_neg; exact_mod_cast h
  exact if_neg h2

theorem exp_bot : Ideal.exp ⊥ = 0 := rfl
theorem exp_coe (r : ℝ) : Ideal.exp (r : EReal) = ((Real.exp r : ℝ) : EReal) := rfl

theorem exp_shift (x : EReal) (hx : x ≠ ⊤) (a b : ℝ) : Ideal.exp ((a : EReal) - b) * Ideal.exp (x - a) = Ideal.exp (x - b) := by
  induction x using EReal.rec with
  | bot => rw [EReal.bot_sub, EReal.bot_sub, exp_bot, mul_zero]
  | top => exact absurd rfl hx
  | coe r => rw [← EReal.coe_sub, ← EReal.coe_sub, ← EReal.coe_sub, exp_coe, exp_coe, exp_coe, ← EReal.coe_mul, ← Real.exp_add]; congr 2; ring

theorem exp_logn (x : EReal) (hx : x ≠ ⊤) (n : ℕ) (b : ℝ) : Ideal.exp (x + logn n - b) = (n : EReal) * Ideal.exp (x - b) := by
  rcases Nat.eq_zero_or_pos n with rfl | hn
  · rw [logn_zero, EReal.add_bot, EReal.bot_sub, exp_bot]; simp
  rw [logn_pos hn]
  induction x using EReal.rec with
  | bot => rw [EReal.bot_add, EReal.bot_sub, exp_bot, mul_zero]
  | top => exact absurd rfl hx
  | coe r =>
    rw [← EReal.coe_add, ← EReal.coe_sub, ← EReal.coe_sub, exp_coe, exp_coe]
    have hn' : (0 : ℝ) < n := by exact_mod_cast hn
    rw [show r + Real.log n - b = Real.log n + (r - b) by ring, Real.exp_add, Real.exp_log hn', EReal.coe_mul]; rfl

theorem mul_sum_real {I : Type} (S : Finset I) (k : ℝ) (hk : 0 ≤ k) (f : I → EReal) : (k : EReal) * ∑ i ∈ S, f i = ∑ i ∈ S, (k : EReal) * f i := by
  classical
  induction S using Finset.induction_on with
  | empty => simp
  | insert a S ha ih => rw [Finset.sum_insert ha, Finset.sum_insert ha, EReal.left_distrib_of_nonneg_of_ne_top (by exact_mod_cast hk) (EReal.coe_ne_top k), ih]

/-- Counting a key as often as it is named is summing over the names. -/
theorem sum_named {I J : Type} [Fintype I] [Fintype J] [DecidableEq I] (live : J → Prop) [DecidablePred live] (σ : J → I) (n : I → ℕ)
    (hn : ∀ i, n i = (Finset.univ.filter fun j => live j ∧ σ j = i).card) (y : I → EReal) :
    ∑ i, (n i : EReal) * y i = ∑ j, if live j then y (σ j) else 0 := by
  rw [← Finset.sum_filter, ← Finset.sum_fiberwise (Finset.univ.filter live) σ (fun j => y (σ j))]
  refine Finset.sum_congr rfl fun i _ => ?_
  rw [Finset.sum_congr rfl (g := fun _ => y i) (fun j hj => by rw [(Finset.mem_filter.mp hj).2]), Finset.sum_const, hn i, Finset.filter_filter, EReal.nsmul_eq_mul]

theorem div_scale (k : ℝ) (hk : 0 < k) (a b : EReal) : Ideal.div (k * a) (k * b) = Ideal.div a b := by
  have hk0 : (k : EReal) ≠ 0 := by exact_mod_cast hk.ne'
  have hkp : (0 : EReal) < k := by exact_mod_cast hk
  unfold Ideal.div
  by_cases hb : b = 0
  · subst hb
    rw [mul_zero, if_pos rfl, if_pos rfl]
    have : (0 : EReal) < k * a ↔ 0 < a := by
      rw [EReal.mul_pos_iff]
      constructor
      · rintro (⟨-, h⟩ | ⟨h, -⟩)
        · exact h
        · exact absurd h (not_lt.mpr hkp.le)
      · exact fun h => Or.inl ⟨hkp, h⟩
    simp only [this]
  · have : (k : EReal) * b ≠ 0 := mul_ne_zero hk0 hb
    rw [if_neg this, if_neg hb, EReal.mul_inv]
    have h1 : (k : EReal) * (k : EReal)⁻¹ = 1 := by rw [← EReal.coe_inv, ← EReal.coe_mul, mul_inv_cancel₀ hk.ne']; rfl
    rw [mul_mul_mul_comm, h1, one_mul]

theorem div_zero_zero : Ideal.div 0 0 = ⊥ := by unfold Ideal.div; rw [if_pos rfl, if_neg (lt_irrefl _)]

/-- The softmax of the keys `s` weighing `v`, over the live ones. -/
def soft {J : Type} [Fintype J] (s v : J → EReal) : EReal :=
  Ideal.div (∑ j, Ideal.exp (s j - Finset.univ.sup s) * v j) (∑ j, Ideal.exp (s j - Finset.univ.sup s))

theorem sub_top' (x : EReal) : x - ⊤ = ⊥ := by rw [sub_eq_add_neg, EReal.neg_top, EReal.add_bot]

variable {I J : Type} [Fintype I] [Fintype J] [DecidableEq I] (μ : ℝ) (s v : Fin 4 × I → EReal) (n : Fin 4 × I → ℕ)
  (live : J → Prop) [DecidablePred live] (σ : J → Fin 4 × I)

/-- A device's running maximum, its weighted sum and its weight. -/
def mxOf (e : Fin 4) : EReal := max (μ : EReal) (Finset.univ.sup fun i => s (e, i) + logn (n (e, i)))
def accOf (e : Fin 4) : EReal := ∑ i, Ideal.exp (s (e, i) + logn (n (e, i)) - mxOf μ s n e) * v (e, i)
def sumOf (e : Fin 4) : EReal := ∑ i, Ideal.exp (s (e, i) + logn (n (e, i)) - mxOf μ s n e)

variable (hn : ∀ i, n i = (Finset.univ.filter fun j => live j ∧ σ j = i).card)
include hn

theorem merge_eq : merge (accOf μ s v n) (mxOf μ s n) (sumOf μ s n)
    = soft (fun j => if live j then s (σ j) else ⊥) (fun j => v (σ j)) := by
  set M := Finset.univ.sup (mxOf μ s n) with hM
  set T := Finset.univ.sup (fun j => if live j then s (σ j) else ⊥) with hT
  have hle (e : Fin 4) : mxOf μ s n e ≤ M := Finset.le_sup (Finset.mem_univ e)
  have hμ (e : Fin 4) : (μ : EReal) ≤ mxOf μ s n e := le_max_left _ _
  have hx (e : Fin 4) (i : I) : s (e, i) + logn (n (e, i)) ≤ mxOf μ s n e := (Finset.le_sup (f := fun i => s (e, i) + logn (n (e, i))) (Finset.mem_univ i)).trans (le_max_right _ _)
  have hMb : M ≠ ⊥ := fun h => by
    have := (hμ 0).trans (hle 0); rw [h] at this; exact absurd (le_bot_iff.mp this) (EReal.coe_ne_bot μ)
  by_cases hMt : M = ⊤
  · -- some device holds an infinite score, so does the whole table
    have hTt : T = ⊤ := by
      obtain ⟨e, -, he⟩ := Finset.exists_mem_eq_sup Finset.univ Finset.univ_nonempty (mxOf μ s n)
      rw [← hM, hMt] at he
      have h2 : (Finset.univ.sup fun i => s (e, i) + logn (n (e, i))) = ⊤ := by
        rcases max_choice (μ : EReal) (Finset.univ.sup fun i => s (e, i) + logn (n (e, i))) with h | h
        · have : (⊤ : EReal) = μ := he.trans h
          exact absurd this.symm (EReal.coe_ne_top μ)
        · exact h.symm.trans he.symm
      have hne : (Finset.univ : Finset I).Nonempty := by
        by_contra h0
        rw [Finset.not_nonempty_iff_eq_empty] at h0
        rw [h0, Finset.sup_empty] at h2
        exact absurd h2 (by decide)
      obtain ⟨i, -, hi⟩ := Finset.exists_mem_eq_sup Finset.univ hne (fun i => s (e, i) + logn (n (e, i)))
      rw [h2] at hi
      have hnp : 0 < n (e, i) := by
        rcases Nat.eq_zero_or_pos (n (e, i)) with h | h
        · rw [h, logn_zero, EReal.add_bot] at hi; exact absurd hi (by decide)
        · exact h
      rw [logn_pos hnp] at hi
      have hs : s (e, i) = ⊤ := by
        induction h : s (e, i) using EReal.rec with
        | bot => rw [h, EReal.bot_add] at hi; exact absurd hi (by decide)
        | top => rfl
        | coe r => rw [h, ← EReal.coe_add] at hi; exact absurd hi.symm (EReal.coe_ne_top _)
      rw [hn] at hnp
      obtain ⟨j, hj⟩ := Finset.card_pos.mp hnp
      have hj := (Finset.mem_filter.mp hj).2
      have : (if live j then s (σ j) else ⊥) ≤ T := Finset.le_sup (f := fun j => if live j then s (σ j) else ⊥) (Finset.mem_univ j)
      rw [if_pos hj.1, hj.2, hs] at this
      exact top_le_iff.mp this
    unfold merge soft
    rw [← hM, ← hT, hMt, hTt]
    simp only [sub_top', exp_bot, zero_mul, Finset.sum_const_zero]
  · obtain ⟨r, hr⟩ : ∃ r : ℝ, M = r := ⟨M.toReal, (EReal.coe_toReal hMt hMb).symm⟩
    have hxt (i : Fin 4 × I) (h : 0 < n i) : s i ≠ ⊤ := fun h' => by
      have := (hx i.1 i.2).trans (hle i.1)
      rw [show (i.1, i.2) = i from rfl, h', logn_pos h, EReal.top_add_coe, top_le_iff] at this
      exact hMt this
    have hterm (e : Fin 4) (i : I) : Ideal.exp (mxOf μ s n e - M) * Ideal.exp (s (e, i) + logn (n (e, i)) - mxOf μ s n e) = (n (e, i) : EReal) * Ideal.exp (s (e, i) - M) := by
      have hmt : mxOf μ s n e ≠ ⊤ := fun h => hMt (top_le_iff.mp (h ▸ hle e))
      have hmb : mxOf μ s n e ≠ ⊥ := fun h => absurd (le_bot_iff.mp (h ▸ hμ e)) (EReal.coe_ne_bot μ)
      obtain ⟨a, ha⟩ : ∃ a : ℝ, mxOf μ s n e = a := ⟨_, (EReal.coe_toReal hmt hmb).symm⟩
      have hxe : s (e, i) + logn (n (e, i)) ≠ ⊤ := fun h => hmt (top_le_iff.mp (h ▸ hx e i))
      rw [ha, hr, exp_shift _ hxe a r]
      rcases Nat.eq_zero_or_pos (n (e, i)) with h | h
      · rw [h, logn_zero, EReal.add_bot, EReal.bot_sub, exp_bot]; simp
      · exact exp_logn _ (hxt (e, i) h) _ r
    have hfac (e : Fin 4) : ∃ k : ℝ, 0 ≤ k ∧ Ideal.exp (mxOf μ s n e - M) = k := by
      have hmt : mxOf μ s n e ≠ ⊤ := fun h => hMt (top_le_iff.mp (h ▸ hle e))
      have hmb : mxOf μ s n e ≠ ⊥ := fun h => absurd (le_bot_iff.mp (h ▸ hμ e)) (EReal.coe_ne_bot μ)
      obtain ⟨a, ha⟩ : ∃ a : ℝ, mxOf μ s n e = a := ⟨_, (EReal.coe_toReal hmt hmb).symm⟩
      exact ⟨Real.exp (a - r), (Real.exp_pos _).le, by rw [ha, hr, ← EReal.coe_sub, exp_coe]⟩
    have hsum (y : Fin 4 × I → EReal) :
        ∑ e, Ideal.exp (mxOf μ s n e - M) * (∑ i, Ideal.exp (s (e, i) + logn (n (e, i)) - mxOf μ s n e) * y (e, i))
          = ∑ j, if live j then Ideal.exp (s (σ j) - M) * y (σ j) else 0 := by
      rw [← sum_named live σ n hn (fun i => Ideal.exp (s i - M) * y i), Fintype.sum_prod_type]
      refine Finset.sum_congr rfl fun e _ => ?_
      obtain ⟨k, hk, hke⟩ := hfac e
      rw [hke, mul_sum_real _ k hk]
      refine Finset.sum_congr rfl fun i _ => ?_
      rw [← mul_assoc, ← hke, hterm, mul_assoc]
    have hnum : ∑ e, Ideal.exp (mxOf μ s n e - M) * accOf μ s v n e = ∑ j, if live j then Ideal.exp (s (σ j) - M) * v (σ j) else 0 := hsum v
    have hden : ∑ e, Ideal.exp (mxOf μ s n e - M) * sumOf μ s n e = ∑ j, if live j then Ideal.exp (s (σ j) - M) else 0 := by
      have := hsum (fun _ => 1); simp only [mul_one] at this; exact this
    unfold merge soft
    rw [← hM, ← hT, hnum, hden]
    have hlive (j : J) (h : live j) : s (σ j) ≤ T := by
      have : (if live j then s (σ j) else ⊥) ≤ T := Finset.le_sup (f := fun j => if live j then s (σ j) else ⊥) (Finset.mem_univ j)
      rwa [if_pos h] at this
    have hst (j : J) (h : live j) : s (σ j) ≠ ⊤ := hxt (σ j) (by rw [hn]; exact Finset.card_pos.mpr ⟨j, Finset.mem_filter.mpr ⟨Finset.mem_univ _, h, rfl⟩⟩)
    have hTt : T ≠ ⊤ := fun h => by
      rcases isEmpty_or_nonempty J with hJ | hJ
      · rw [hT, Finset.univ_eq_empty, Finset.sup_empty] at h; exact absurd h (by decide)
      obtain ⟨j, -, hj⟩ := Finset.exists_mem_eq_sup Finset.univ Finset.univ_nonempty (fun j => if live j then s (σ j) else ⊥)
      rw [← hT, h] at hj
      by_cases hl : live j
      · exact hst j hl (by simpa only [if_pos hl] using hj.symm)
      · exact absurd (hj.trans (if_neg hl)) (by decide)
    by_cases hTb : T = ⊥
    · have hall (j : J) : (if live j then s (σ j) else ⊥) = (⊥ : EReal) := by
        by_cases h : live j
        · rw [if_pos h]; exact le_bot_iff.mp (hTb ▸ hlive j h)
        · rw [if_neg h]
      have h1 (j : J) (y : EReal) : (if live j then Ideal.exp (s (σ j) - M) * y else 0) = 0 := by
        by_cases h : live j
        · have := hall j; rw [if_pos h] at this
          rw [if_pos h, this, EReal.bot_sub, exp_bot, zero_mul]
        · rw [if_neg h]
      have h2 (j : J) : (if live j then Ideal.exp (s (σ j) - M) else 0) = 0 := by have := h1 j 1; simpa only [mul_one] using this
      simp only [h1, h2, hall, EReal.bot_sub, exp_bot, zero_mul, Finset.sum_const_zero]
    · obtain ⟨t, ht⟩ : ∃ t : ℝ, T = t := ⟨T.toReal, (EReal.coe_toReal hTt hTb).symm⟩
      have h1 (j : J) (y : EReal) : (if live j then Ideal.exp (s (σ j) - M) * y else 0)
          = ((Real.exp (t - r) : ℝ) : EReal) * (Ideal.exp ((if live j then s (σ j) else ⊥) - T) * y) := by
        by_cases h : live j
        · rw [if_pos h, if_pos h, ← mul_assoc, hr, ht, ← exp_coe, EReal.coe_sub, exp_shift _ (hst j h)]
        · rw [if_neg h, if_neg h, EReal.bot_sub, exp_bot, zero_mul, mul_zero]
      have h2 (j : J) : (if live j then Ideal.exp (s (σ j) - M) else 0)
          = ((Real.exp (t - r) : ℝ) : EReal) * Ideal.exp ((if live j then s (σ j) else ⊥) - T) := by have := h1 j 1; simpa only [mul_one] using this
      simp only [h1, h2]
      rw [← mul_sum_real _ _ (Real.exp_pos _).le, ← mul_sum_real _ _ (Real.exp_pos _).le, div_scale _ (Real.exp_pos _)]

end Cert.Value

end
-- ==== Proof.AttnValue.lean ====
/-
What the attention computes, entry by entry, over the extended reals.
-/
module

public import proofs.«01_k».proof.Proof.AttnBody
public import proofs.«01_k».proof.Proof.Merge
public import Idealize.ShloMosaic.Lib.Pointwise

@[expose] public section

noncomputable section

namespace Cert.Attn

open Cert.KernelIdeal Cert.KernelIdeal.Gen Cert.Gather Cert.Value

open Idealize.ShloMosaic Idealize.ShloMosaic.TcCoe Idealize.SL.Sem

/-- The page a row of keys lies in, and its place there. -/
def pg (j : Fin 8192) : Fin 256 := ⟨j.val / 32, by omega⟩
def sl (j : Fin 8192) : Fin 32 := ⟨j.val % 32, by omega⟩

/-! ## The three literals -/

/-- What the queries are scaled by, and where the running maximum starts. -/
def scale : ℝ := 11863283 * 2 ^ (-27 : ℤ)
def floor0 : ℝ := -(10587912 * 2 ^ (73 : ℤ))

theorem scale_nonneg : 0 ≤ scale := by unfold scale; positivity
theorem scale_bits : Ideal.ofBits .f32 0x3DB504F3#32 = (scale : EReal) := by
  simp [Ideal.ofBits, Ideal.ieee, scale]
theorem floor_bits : Ideal.ofBits .f32 0xEFA18F08#32 = (floor0 : EReal) := by
  simp [Ideal.ofBits, Ideal.ieee, floor0]
theorem least_bits : Ideal.ofBits .f32 0xFF800000#32 = (⊥ : EReal) := by
  simp [Ideal.ofBits, Ideal.ieee]

theorem neg_named : (Named.named κ "neg" 0xF149F2CA#32 : Ideal .f32) = (⊥ : EReal) := by
  rfl

theorem sitofp_bit (p : Prop) [Decidable p] : (FloatOps.sitofp .f32 (BitVec.setWidth 32 (BitVec.ofBool (decide p))) : Ideal .f32) = if p then (1 : EReal) else 0 := by
  by_cases h : p <;> simp [h, FloatOps.sitofp]

theorem ofNat_inj {a b : ℕ} (ha : a < 8192) (hb : b < 8192) : BitVec.ofNat 32 a = BitVec.ofNat 32 b ↔ a = b := by
  constructor
  · intro h
    have := congrArg BitVec.toNat h
    rw [BitVec.toNat_ofNat, BitVec.toNat_ofNat] at this
    omega
  · exact fun h => h ▸ rfl

/-! ## The weights -/

section Weights
variable (v : IVec S32x256 32)

/-- How many columns of row `b` name the page `p`. -/
def cnt (b : Fin 32) (p : Fin 256) : ℕ := (Finset.univ.filter fun k : Fin 256 => v (ix2 b k) = BitVec.ofNat 32 p.val).card

theorem named_at (j : ℕ) (h : j < 256) (b : Fin 32) (p : Fin 256) :
    (named v j h : FVec Ideal S32x256 .f32) (ix2 b p) = if v (ix2 b (⟨j, h⟩ : Fin 256)) = BitVec.ofNat 32 p.val then (1 : EReal) else 0 := by
  pointwise [named]
  by_cases h : v (ix2 b (⟨j, h⟩ : Fin 256)) = BitVec.ofNat 32 p.val
  · rw [if_pos h, h]; simp [IntOp.cmpi, Scalar.select]
  · rw [if_neg h]
    have h1 : IntOp.cmpi .eq (v (ix2 b (⟨j, _⟩ : Fin 256))) (BitVec.ofNat 32 p.val) = 0#1 := congrArg BitVec.ofBool (beq_eq_false_iff_ne.mpr h)
    rw [h1]; rfl

theorem counts_at (b : Fin 32) (p : Fin 256) : ∀ (n : ℕ) (h : n ≤ 256),
    (counts v n h : FVec Ideal S32x256 .f32) (ix2 b p) = ∑ k : Fin n, if v (ix2 b (⟨k.val, by omega⟩ : Fin 256)) = BitVec.ofNat 32 p.val then (1 : EReal) else 0
  | 0, _ => by
    pointwise [counts]
    exact (Finset.sum_empty).symm
  | n + 1, h => by
    rw [Fin.sum_univ_castSucc]
    show (counts v n _ : FVec Ideal S32x256 .f32) (ix2 b p) + (named v n _ : FVec Ideal S32x256 .f32) (ix2 b p) = _
    rw [counts_at b p n _, named_at]; rfl

theorem counts_all (b : Fin 32) (p : Fin 256) : (counts v 256 (Nat.le_refl _) : FVec Ideal S32x256 .f32) (ix2 b p) = (cnt v b p : EReal) := by
  rw [counts_at]
  exact Finset.sum_boole _ _

theorem countsT_at (b : Fin 32) (p : Fin 256) : (countsT v : FVec Ideal S256x32 .bf16) (ix2 p b) = (cnt v b p : EReal) := by
  pointwise [countsT]
  rw [Finset.sum_eq_single b]
  · rw [counts_all]
    have : (FloatOps.sitofp .f32 (BitVec.setWidth 32 (IntOp.cmpi .eq (BitVec.ofNat 32 b.val) (BitVec.ofNat 32 b.val))) : Ideal .f32) = (1 : EReal) :=
      (sitofp_bit (BitVec.ofNat 32 b.val = BitVec.ofNat 32 b.val)).trans (if_pos rfl)
    rw [this, mul_one]
  · intro x _ hx
    have : (FloatOps.sitofp .f32 (BitVec.setWidth 32 (IntOp.cmpi .eq (BitVec.ofNat 32 x.val) (BitVec.ofNat 32 b.val))) : Ideal .f32) = (0 : EReal) :=
      (sitofp_bit (BitVec.ofNat 32 x.val = BitVec.ofNat 32 b.val)).trans (if_neg fun h => hx (Fin.ext ((ofNat_inj (by omega) (by omega)).mp h)))
    rw [this, mul_zero]
  · exact fun h => absurd (Finset.mem_univ b) h

/-- The division of a row's number by the rows of a page, as the program spells it. -/
def pageWord (j : BitVec 32) : BitVec 32 :=
  Scalar.select
    (IntOp.andi
      (IntOp.cmpi .ne (IntOp.subi (BitVec.setWidth 32 (IntOp.cmpi .sgt j 0#32)) (BitVec.setWidth 32 (IntOp.cmpi .slt j 0#32)))
        (Scalar.subi (Scalar.extui (Scalar.cmpi .sgt 32#32 0#32)) (Scalar.extui (Scalar.cmpi .slt 32#32 0#32))))
      (IntOp.cmpi .ne (IntOp.remsi .vector j 32#32) 0#32))
    (IntOp.subi (IntOp.divsi .vector j 32#32) 1#32) (IntOp.divsi .vector j 32#32)

theorem pageWord_split : ∀ (a : Fin 256) (b : Fin 32), pageWord (BitVec.ofNat 32 (32 * a.val + b.val)) = BitVec.ofNat 32 a.val := by
  decide +kernel

theorem pageWord_eq (j : Fin 8192) : pageWord (BitVec.ofNat 32 j.val) = BitVec.ofNat 32 (pg j).val := by
  have h := pageWord_split (pg j) (sl j)
  rwa [show 32 * (pg j).val + (sl j).val = j.val from Nat.div_add_mod _ _] at h

theorem spread_at (b : Fin 32) (j : Fin 8192) : (spread v : FVec Ideal S32x8192 .f32) (ix2 b j) = (cnt v b (pg j) : EReal) := by
  pointwise [spread, k0_pay87, k0_pay85, k0_pay86]
  show ∑ x : Fin 256, (countsT v : FVec Ideal S256x32 .bf16) (ix2 x b) * (FloatOps.sitofp .f32 (BitVec.setWidth 32 (IntOp.cmpi .eq (BitVec.ofNat 32 x.val) (pageWord (BitVec.ofNat 32 j.val)))) : Ideal .f32) = _
  rw [pageWord_eq, Finset.sum_eq_single (pg j)]
  · rw [countsT_at]
    have : (FloatOps.sitofp .f32 (BitVec.setWidth 32 (IntOp.cmpi .eq (BitVec.ofNat 32 (pg j).val) (BitVec.ofNat 32 (pg j).val))) : Ideal .f32) = (1 : EReal) :=
      (sitofp_bit (BitVec.ofNat 32 (pg j).val = BitVec.ofNat 32 (pg j).val)).trans (if_pos rfl)
    rw [this, mul_one]
  · intro x _ hx
    have : (FloatOps.sitofp .f32 (BitVec.setWidth 32 (IntOp.cmpi .eq (BitVec.ofNat 32 x.val) (BitVec.ofNat 32 (pg j).val))) : Ideal .f32) = (0 : EReal) :=
      (sitofp_bit (BitVec.ofNat 32 x.val = BitVec.ofNat 32 (pg j).val)).trans (if_neg fun h => hx (Fin.ext ((ofNat_inj (by omega) (by omega)).mp h)))
    rw [this, mul_zero]
  · exact fun h => absurd (Finset.mem_univ _) h

theorem weights_at (b : Fin 32) (j : Fin 8192) : (weights (F := Ideal) v : FVec Ideal S1x32x8192 .f32) (ix3 (0 : Fin 1) b j) = logn (cnt v b (pg j)) := by
  pointwise [weights, k0_pay88, k0_pay7]
  rw [spread_at, neg_named]; rfl

end Weights

/-! ## The partial sums -/

section Block
variable (w : Vec Ideal S1x32x8192 .f32) (q : Vec Ideal S32x128 .f32) (K V : Vec Ideal S1x256x32x128 .f32)

/-- A row of keys against a row of queries, weighed. -/
def score (b : Fin 32) (j : Fin 8192) : EReal :=
  ∑ x : Fin 128, q (ix2 b x) * Ideal.ofBits .f32 0x3DB504F3#32 * K (ix4 (0 : Fin 1) (pg j) (sl j) x) + w (ix3 (0 : Fin 1) b j)
/-- The greatest of them, not below the start. -/
def top (b : Fin 32) : EReal := max (floor0 : EReal) (Finset.univ.sup fun j => score w q K b j)

theorem score_at (b : Fin 32) (j : Fin 8192) : (k0_pay93 w q K : FVec Ideal S32x8192 .f32) (ix2 b j) = score w q K b j := by
  pointwise [k0_pay93]; rfl

theorem top_at (b : Fin 32) : (k0_pay94 w q K m0 : FVec Ideal S32x1 .f32) (ix2 b (0 : Fin 1)) = top w q K b := by
  pointwise [k0_pay94, m0, k0_pay90]
  rw [least_bits, floor_bits]
  simp only [score_at]; rfl

theorem exp_at (b : Fin 32) (j : Fin 8192) : (k0_pay96 w q K m0 : FVec Ideal S32x8192 .f32) (ix2 b j) = Ideal.exp (score w q K b j - top w q K b) := by
  pointwise [k0_pay96]
  rw [score_at, top_at]

theorem acc_at (b : Fin 32) (d : Fin 128) :
    (k0_pay4 (accN w q K V) : FVec Ideal S1x32x128 .bf16) (ix3 (0 : Fin 1) b d)
      = ∑ j : Fin 8192, Ideal.exp (score w q K b j - top w q K b) * V (ix4 (0 : Fin 1) (pg j) (sl j) d) := by
  pointwise [k0_pay4, accN, k0_pay1, k0_pay92, k0_pay89]
  rw [zero_mul, zero_add]
  simp only [exp_at]; rfl

theorem max_at (b : Fin 32) (d : Fin 128) : (k0_pay5 (mN w q K) : FVec Ideal S1x32x128 .bf16) (ix3 (0 : Fin 1) b d) = top w q K b := by
  pointwise [k0_pay5, mN, k0_pay2]
  rw [top_at]

theorem sum_at (b : Fin 32) (d : Fin 128) :
    (k0_pay6 (lN w q K) : FVec Ideal S1x32x128 .bf16) (ix3 (0 : Fin 1) b d) = ∑ j : Fin 8192, Ideal.exp (score w q K b j - top w q K b) := by
  pointwise [k0_pay6, lN, k0_pay3, k0_pay97, l0, k0_pay91]
  rw [zero_mul, zero_add]
  simp only [exp_at]

theorem block_acc (b : Fin 32) (d : Fin 128) : block w q K V (ix3 (0 : Fin 1) (⟨b.val, by omega⟩ : Fin 96) d)
    = ∑ j : Fin 8192, Ideal.exp (score w q K b j - top w q K b) * V (ix4 (0 : Fin 1) (pg j) (sl j) d) :=
  (dif_pos b.isLt).trans (acc_at w q K V b d)
theorem block_max (b : Fin 32) (d : Fin 128) : block w q K V (ix3 (0 : Fin 1) (⟨32 + b.val, by omega⟩ : Fin 96) d) = top w q K b := by
  refine ((dif_neg (show ¬ 32 + b.val < 32 by omega)).trans (dif_pos (show 32 + b.val < 64 by omega))).trans (Eq.trans ?_ (max_at w q K b d))
  have e : (⟨32 + b.val - 32, by omega⟩ : Fin 32) = b := Fin.ext (by simp)
  exact congrArg (fun x => (k0_pay5 (mN w q K) : FVec Ideal S1x32x128 .bf16) (ix3 (0 : Fin 1) x d)) e
theorem block_sum (b : Fin 32) (d : Fin 128) : block w q K V (ix3 (0 : Fin 1) (⟨64 + b.val, by omega⟩ : Fin 96) d)
    = ∑ j : Fin 8192, Ideal.exp (score w q K b j - top w q K b) := by
  refine ((dif_neg (show ¬ 64 + b.val < 32 by omega)).trans (dif_neg (show ¬ 64 + b.val < 64 by omega))).trans (Eq.trans ?_ (sum_at w q K b d))
  have e : (⟨64 + b.val - 64, by omega⟩ : Fin 32) = b := Fin.ext (by simp)
  exact congrArg (fun x => (k0_pay6 (lN w q K) : FVec Ideal S1x32x128 .bf16) (ix3 (0 : Fin 1) x d)) e

end Block

end Cert.Attn

end
-- ==== Proof.HostValue.lean ====
/-
What the operations around the two calls leave, entry by entry: the table of a device's own pages, the queries head by
head, the partial sums as they are gathered, and the result.
-/
module

public import proofs.«01_k».proof.Proof.Launch
public import proofs.«01_k».proof.Proof.AttnValue
public import Idealize.ShloMosaic.Lib.Pointwise
public import Idealize.ShloMosaic.Lib.Tactic.CleanTypes
public import Idealize.ShloMosaic.Lib.StableHlo.Run
public import Idealize.ShloMosaic.Lib.Pipeline.ValueKit

@[expose] public section

noncomputable section

namespace Cert.Whole

open Cert.KernelIdeal Cert.KernelIdeal.Gen Cert.Gather Cert.Attn
open Cert.Value (merge merge_perm sup_four)

open Idealize.ShloMosaic Idealize.ShloMosaic.TcCoe Idealize.SL.Sem

/-! ## The gather's result, as four partials put together -/

theorem combine_at (f : S4x16x96x128.Idx → EReal) (h : Fin 16) (b : Fin 32) (d : Fin 128) :
    combine (F := Ideal) f (ix3 h b d) = merge (fun k => f (ix4 k h (⟨b.val, by omega⟩ : Fin 96) d)) (fun k => f (ix4 k h (⟨32 + b.val, by omega⟩ : Fin 96) d))
      (fun k => f (ix4 k h (⟨64 + b.val, by omega⟩ : Fin 96) d)) := by
  unfold merge
  rw [sup_four]; simp only [Fin.sum_univ_four]
  unfold combine
  pointwise [k1_pay1, k1_pay3, k1_pay4, k1_pay5, k1_pay6, k1_pay7, k1_pay8, k1_pay9, k1_pay10, rd]
  rfl

/-- The slots of a device's buffer as a permutation of the devices. -/
def srcPerm (c : Dev nD) : Fin 4 ≃ Fin 4 := Equiv.ofBijective (src c) (by revert c; decide)

theorem outAt_at (X : Dev nD → Part Ideal) (c : Dev nD) (h : Fin 16) (b : Fin 32) (d : Fin 128) :
    outAt (F := Ideal) X c (ix3 h b d) = merge (fun e : Dev nD => X e (ix3 h (⟨b.val, by omega⟩ : Fin 96) d)) (fun e => X e (ix3 h (⟨32 + b.val, by omega⟩ : Fin 96) d))
      (fun e => X e (ix3 h (⟨64 + b.val, by omega⟩ : Fin 96) d)) := by
  unfold outAt
  rw [combine_at]
  exact merge_perm (srcPerm c) (fun e : Dev nD => X e (ix3 h (⟨b.val, by omega⟩ : Fin 96) d)) (fun e => X e (ix3 h (⟨32 + b.val, by omega⟩ : Fin 96) d))
    (fun e => X e (ix3 h (⟨64 + b.val, by omega⟩ : Fin 96) d))

/-! ## The table of a device's own pages -/

/-- The first page of device `c`, as the program computes it. -/
def firstWord (c : Dev nD) : BitVec 32 := IntOp.muli (IntOp.remui .host (IntOp.divui .host (Dev.word c) 1#32) 4#32) 256#32
/-- An entry of the table: the page's place on the device, or none. -/
def entry (l : BitVec 1) (c : Dev nD) (x : BitVec 32) : BitVec 32 :=
  Scalar.select (IntOp.andi (IntOp.andi l (IntOp.cmpi .sge x (firstWord c))) (IntOp.cmpi .slt x (IntOp.addi (firstWord c) 256#32)))
    (IntOp.subi x (firstWord c)) 4294967295#32

theorem entry_dead (c : Dev nD) (x : BitVec 32) : entry 0#1 c x = 4294967295#32 := by
  have h (y z : BitVec 1) : IntOp.andi (IntOp.andi 0#1 y) z = 0#1 := by revert y z; decide
  unfold entry
  rw [h]; rfl
theorem entry_live : ∀ (c : Dev nD) (n : Fin 1024), entry 1#1 c (BitVec.ofNat 32 n.val)
    = if 256 * c.val ≤ n.val ∧ n.val < 256 * c.val + 256 then BitVec.ofNat 32 (n.val - 256 * c.val) else 4294967295#32 := by decide +kernel

theorem entry_iff (l : BitVec 1) (c : Dev nD) (x : BitVec 32) (n : Fin 1024) (hx : l = 1#1 → x = BitVec.ofNat 32 n.val) (p : Fin 256) :
    entry l c x = BitVec.ofNat 32 p.val ↔ l = 1#1 ∧ n.val = 256 * c.val + p.val := by
  have hne : (4294967295#32 : BitVec 32) ≠ BitVec.ofNat 32 p.val := fun h => by
    have := congrArg BitVec.toNat h
    rw [BitVec.toNat_ofNat, BitVec.toNat_ofNat] at this
    omega
  rcases BitVec.eq_zero_or_eq_one l with rfl | rfl
  · rw [entry_dead]
    exact ⟨fun h => absurd h hne, fun h => absurd h.1 (by decide)⟩
  rw [hx rfl, entry_live]
  split
  · rw [ofNat_inj (by omega) (by omega)]
    constructor
    · intro h; exact ⟨rfl, by omega⟩
    · intro h; omega
  · constructor
    · exact fun h => absurd h hne
    · intro h; omega

variable (m : (ℓ : Loc nD τ sig) → Buf (Elt Ideal) ℓ) (c : Dev nD)

/-- A device's arguments: queries, keys, values, table, lengths. -/
abbrev q1 : S32x1x16x128.Idx → EReal := m ((c.tc : Thread nD τ).loc main_arg0)
abbrev k1 : S256x32x16x128.Idx → EReal := m ((c.tc : Thread nD τ).loc main_arg1)
abbrev v1 : S256x32x16x128.Idx → EReal := m ((c.tc : Thread nD τ).loc main_arg2)
abbrev bt1 : IVec S32x256 32 := m ((c.tc : Thread nD τ).loc main_arg3)
abbrev ln1 : IVec S32 32 := m ((c.tc : Thread nD τ).loc main_arg4)

theorem v21_at (b : Fin 32) (k : Fin 256) :
    (V3 m c main_v21 : IVec S32x256 32) (ix2 b k) = entry (IntOp.cmpi .slt (BitVec.ofNat 32 k.val) (ln1 m c (ix1 b))) c (bt1 m c (ix2 b k)) := by
  rw [V3_of m c main_v21 (by decide)]
  unfold V2 V1
  simp only [hostOps0_1, hostOps0, StableHlo.TRef.ternary, StableHlo.TRef.unary, StableHlo.TRef.toBuf, StableHlo.TRef.ofBuf, cast_eq]
  after_results_simp
  clean_types
  pointwise
  rfl

theorem tbl_eq : tbl m c t0_0 = V3 m c main_v21 := by
  have hz : (fun a => (win0_1.index t0_0) a * main_v21.ty.shape.size a) = fun _ => 0 := funext fun a => by fin_cases a <;> decide
  exact Memref.read_access_unit_zero (Elt Ideal) main_v21 hz (fun a => by fin_cases a <;> decide) _

theorem v22_at (b : Fin 32) (h : Fin 16) (d : Fin 128) :
    (V3 m c main_v22 : S32x2048.Idx → EReal) (ix2 b (⟨128 * h.val + d.val, by omega⟩ : Fin 2048)) = q1 m c (ix4 b (0 : Fin 1) h d) := by
  unfold V3
  simp only [hostOps0_2]
  after_results_simp
  clean_types
  pointwise

theorem index0_0 : ∀ t : Fin cfg0.N, win0_0.index t (0 : Fin 2) = 0 ∧ win0_0.index t (1 : Fin 2) = t.val := by decide +kernel

theorem qry_at (t : Fin cfg0.N) (b : Fin 32) (d : Fin 128) : qry m c t (ix2 b d) = q1 m c (ix4 b (0 : Fin 1) (⟨t.val, t.isLt⟩ : Fin 16) d) := by
  rw [← v22_at m c b ⟨t.val, t.isLt⟩ d]
  show V3 m c main_v22 ((win0_0.blk t).view.emb (ix2 b d)) = _
  refine congrArg (V3 m c main_v22) (funext fun a => Fin.ext ?_)
  match a with
  | ⟨0, _⟩ => show win0_0.index t (0 : Fin 2) * 32 + 1 * b.val = b.val; rw [(index0_0 t).1]; omega
  | ⟨1, _⟩ => show win0_0.index t (1 : Fin 2) * 128 + 1 * d.val = 128 * t.val + d.val; rw [(index0_0 t).2]; omega

theorem keys_eq : kAt m c = k1 m c := (V3_of m c main_arg1 (by decide)).trans <| (V2_of m c main_arg1 (by decide)).trans (V1_of m c main_arg1 (by decide))
theorem vals_eq : vAt m c = v1 m c := (V3_of m c main_arg2 (by decide)).trans <| (V2_of m c main_arg2 (by decide)).trans (V1_of m c main_arg2 (by decide))

/-! ## The partials, and the result -/

theorem index0_2 : ∀ t : Fin cfg0.N, win0_2.index t (0 : Fin 3) = t.val ∧ win0_2.index t (1 : Fin 3) = 0 ∧ win0_2.index t (2 : Fin 3) = 0 := by decide +kernel

/-- The partials lie head by head, each as its point left it. -/
def partials : S16x96x128.Idx → EReal := fun i => piece m c (⟨(i 0).val, (i 0).isLt⟩ : Fin cfg0.N) (ix3 (0 : Fin 1) (i 1) (i 2))

theorem mid_eq : mid m c = partials m c := by
  unfold mid
  refine (dat0 m c).arrAt_eq_of_covers (2 : Fin 3) (partials m c) (by decide +kernel) fun t hf y => ?_
  have e : (win0_2.blk t).view.emb y = (ix3 (⟨t.val, t.isLt⟩ : Fin 16) (y 1) (y 2) : S16x96x128.Idx) := by
    funext a; apply Fin.ext
    match a with
    | ⟨0, _⟩ => show win0_2.index t (0 : Fin 3) * 1 + 1 * (y 0).val = t.val; rw [(index0_2 t).1]; have h0 : (y 0).val < 1 := (y 0).isLt; omega
    | ⟨1, _⟩ => show win0_2.index t (1 : Fin 3) * 96 + 1 * (y 1).val = (y 1).val; rw [(index0_2 t).2.1]; omega
    | ⟨2, _⟩ => show win0_2.index t (2 : Fin 3) * 128 + 1 * (y 2).val = (y 2).val; rw [(index0_2 t).2.2]; omega
  refine Eq.trans ?_ (congrArg (partials m c) e).symm
  show piece m c t _ = piece m c t _
  refine congrArg (piece m c t) (funext fun a => Fin.ext ?_)
  match a with
  | ⟨0, _⟩ => have h0 : (y 0).val < 1 := (y 0).isLt; show (y 0).val = 0; omega
  | ⟨1, _⟩ => rfl
  | ⟨2, _⟩ => rfl

theorem part_eq : part m c = partials m c := by
  have hz : (fun a => (win1_0.index (0 : Fin 1)) a * main_v23.ty.shape.size a) = fun _ => 0 := funext fun a => by fin_cases a <;> decide
  have h := Memref.read_access_unit_zero (Elt Ideal) main_v23 hz (fun a => by fin_cases a <;> decide) (W4 m c main_v23)
  exact Eq.trans h ((W4_v23 m c).trans (mid_eq m c))

theorem fin_eq : fin m c = outAt (part m) c := by
  have hz : (fun a => (win1_1.index (0 : Fin 1)) a * main_v24.ty.shape.size a) = fun _ => 0 := funext fun a => by fin_cases a <;> decide
  have hr := Memref.read_access_unit_zero (Elt Ideal) main_v24 hz (fun a => by fin_cases a <;> decide) (fin m c)
  refine hr.symm.trans ?_
  show (win1_1.blk (0 : Fin 1)).view.read (Elt Ideal) (fin m c) = outAt (part m) c
  unfold fin
  rw [show cfg1.N = ((0 : Fin 1) : Fin cfg1.N).val + 1 from rfl, (dat1 m c).arrAt_succ (1 : Fin 2) (0 : Fin 1)]
  rw [show (cfg1.win (1 : Fin 2)).flush (0 : Fin 1) = true from by decide, if_pos rfl]
  exact View.read_write_univ _ _

theorem out_at (b : Fin 32) (h : Fin 16) (d : Fin 128) : (W6 m c main_v26 : S32x1x16x128.Idx → EReal) (ix4 b (0 : Fin 1) h d)
    = merge (fun e : Dev nD => partials m e (ix3 h (⟨b.val, by omega⟩ : Fin 96) d)) (fun e => partials m e (ix3 h (⟨32 + b.val, by omega⟩ : Fin 96) d))
      (fun e => partials m e (ix3 h (⟨64 + b.val, by omega⟩ : Fin 96) d)) := by
  have h1 : outAt (part m) c (ix3 h b d) = _ := outAt_at (part m) c h b d
  simp only [part_eq] at h1
  refine Eq.trans ?_ h1
  rw [← fin_eq, ← W5_v24]
  unfold W6
  simp only [hostOps2]
  after_results_simp
  clean_types
  pointwise

end Cert.Whole

end
-- ==== Proof.RefValue.lean ====
/-
What the reference computes, entry by entry, over the extended reals: the softmax over the pages its table names.
-/
module

public import proofs.«01_k».proof.Proof.Gen.ReferenceIdeal.Run
public import proofs.«01_k».proof.Proof.AttnValue
public import Idealize.ShloMosaic.Lib.Pointwise
public import Idealize.ShloMosaic.Lib.Tactic.CleanTypes

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Value (soft)
open Cert.Attn (pg sl least_bits)

/-- The page an index word reads: the nearest one. -/
def nearest (w : BitVec 32) : Fin 1024 := ⟨min w.toInt.toNat 1023, by omega⟩
/-- The page a word of the table reads: negative words count from the end. -/
def readPage (w : BitVec 32) : Fin 1024 := nearest (Scalar.select (IntOp.cmpi .slt w 0#32) (IntOp.addi w 1024#32) w)

theorem readPage_page : ∀ n : Fin 1024, readPage (BitVec.ofNat 32 n.val) = n := by decide +kernel

/-- The reference's gather reads the pages its indices name. -/
theorem gather_at (x : S1024x32x16x128.Idx → EReal) (idx : IVec S32x256x1 32) (b : Fin 32) (p : Fin 256) (s : Fin 32) (h : Fin 16) (d : Fin 128) :
    Host.gather gather_S1024x32x16x128_S32x256x1_S32x256x32x16x128_234_0_n_n_0_2_13216128 x idx (ix5 b p s h d)
      = x (ix4 (nearest (idx (ix3 b p (0 : Fin 1)))) s h d) := by
  unfold Host.gather
  refine congrArg x (funext fun a => Fin.ext ?_)
  match a with
  | ⟨0, _⟩ =>
    show (gather_S1024x32x16x128_S32x256x1_S32x256x32x16x128_234_0_n_n_0_2_13216128).start (ix5 b p s h d) idx 0 + (gather_S1024x32x16x128_S32x256x1_S32x256x32x16x128_234_0_n_n_0_2_13216128).batchCoord (ix5 b p s h d) 0 + (gather_S1024x32x16x128_S32x256x1_S32x256x32x16x128_234_0_n_n_0_2_13216128).offCoord (ix5 b p s h d) 0 = min (idx (ix3 b p (0 : Fin 1))).toInt.toNat 1023
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 4) ∈ (gather_S1024x32x16x128_S32x256x1_S32x256x32x16x128_234_0_n_n_0_2_13216128).startIndexMap from List.mem_singleton.mpr rfl)]
    have hsi : (gather_S1024x32x16x128_S32x256x1_S32x256x32x16x128_234_0_n_n_0_2_13216128).siIdx (ix5 b p s h d) ⟨List.idxOf (0 : Fin 4) (gather_S1024x32x16x128_S32x256x1_S32x256x32x16x128_234_0_n_n_0_2_13216128).startIndexMap,
        List.idxOf_lt_length_iff.2 (List.mem_singleton.mpr rfl)⟩ = ix3 b p (0 : Fin 1) := by
      funext e; refine Fin.ext ?_
      match e with
      | ⟨0, _⟩ => rfl
      | ⟨1, _⟩ => rfl
      | ⟨2, _⟩ => rfl
    rw [hsi]
    rfl
  | ⟨1, _⟩ =>
    show (gather_S1024x32x16x128_S32x256x1_S32x256x32x16x128_234_0_n_n_0_2_13216128).start (ix5 b p s h d) idx 1 + (gather_S1024x32x16x128_S32x256x1_S32x256x32x16x128_234_0_n_n_0_2_13216128).batchCoord (ix5 b p s h d) 1 + (gather_S1024x32x16x128_S32x256x1_S32x256x32x16x128_234_0_n_n_0_2_13216128).offCoord (ix5 b p s h d) 1 = s.val
    rw [GatherDims.batchCoord_eq_zero _ _ _ List.not_mem_nil]
    unfold GatherDims.start
    rw [dif_neg (by decide)]
    unfold GatherDims.offCoord
    rw [dif_pos (by decide)]
    rw [Nat.add_zero, Nat.zero_add]; rfl
  | ⟨2, _⟩ =>
    show (gather_S1024x32x16x128_S32x256x1_S32x256x32x16x128_234_0_n_n_0_2_13216128).start (ix5 b p s h d) idx 2 + (gather_S1024x32x16x128_S32x256x1_S32x256x32x16x128_234_0_n_n_0_2_13216128).batchCoord (ix5 b p s h d) 2 + (gather_S1024x32x16x128_S32x256x1_S32x256x32x16x128_234_0_n_n_0_2_13216128).offCoord (ix5 b p s h d) 2 = h.val
    rw [GatherDims.batchCoord_eq_zero _ _ _ List.not_mem_nil]
    unfold GatherDims.start
    rw [dif_neg (by decide)]
    unfold GatherDims.offCoord
    rw [dif_pos (by decide)]
    rw [Nat.add_zero, Nat.zero_add]; rfl
  | ⟨3, _⟩ =>
    show (gather_S1024x32x16x128_S32x256x1_S32x256x32x16x128_234_0_n_n_0_2_13216128).start (ix5 b p s h d) idx 3 + (gather_S1024x32x16x128_S32x256x1_S32x256x32x16x128_234_0_n_n_0_2_13216128).batchCoord (ix5 b p s h d) 3 + (gather_S1024x32x16x128_S32x256x1_S32x256x32x16x128_234_0_n_n_0_2_13216128).offCoord (ix5 b p s h d) 3 = d.val
    rw [GatherDims.batchCoord_eq_zero _ _ _ List.not_mem_nil]
    unfold GatherDims.start
    rw [dif_neg (by decide)]
    unfold GatherDims.offCoord
    rw [dif_pos (by decide)]
    rw [Nat.add_zero, Nat.zero_add]; rfl

variable (m : (ℓ : Loc nD τ sig) → Buf (Elt Ideal) ℓ) (c : Dev nD)

/-- The arguments: queries, keys, values, table, lengths. -/
abbrev q0 : S32x1x16x128.Idx → EReal := m ((c.tc : Thread nD τ).loc main_arg0)
abbrev k0 : S1024x32x16x128.Idx → EReal := m ((c.tc : Thread nD τ).loc main_arg1)
abbrev v0 : S1024x32x16x128.Idx → EReal := m ((c.tc : Thread nD τ).loc main_arg2)
abbrev bt0 : IVec S32x256 32 := m ((c.tc : Thread nD τ).loc main_arg3)
abbrev ln0 : IVec S32 32 := m ((c.tc : Thread nD τ).loc main_arg4)

/-- Whether the table's entry `k` of row `b` counts. -/
def live (ln : IVec S32 32) (b : Fin 32) (k : Fin 256) : Prop := IntOp.cmpi .slt (BitVec.ofNat 32 k.val) (ln (ix1 b)) = 1#1
instance (ln : IVec S32 32) (b : Fin 32) (k : Fin 256) : Decidable (live ln b k) := by unfold live; infer_instance

/-- The page the reference reads for the table's entry `k` of row `b`. -/
def pageOf (b : Fin 32) (k : Fin 256) : Fin 1024 := readPage (bt0 m c (ix2 b k))

theorem res_at (b : Fin 32) (h : Fin 16) (d : Fin 128) :
    (res_main_v39 m c : S32x1x16x128.Idx → EReal) (ix4 b (0 : Fin 1) h d)
      = soft (fun j : Fin 8192 => if live (ln0 m c) b (pg j) then
            (∑ x : Fin 128, q0 m c (ix4 b (0 : Fin 1) h x) * k0 m c (ix4 (pageOf m c b (pg j)) (sl j) h x)) * Ideal.ofBits .f32 0x3DB504F3#32 else (⊥ : EReal))
          (fun j => v0 m c (ix4 (pageOf m c b (pg j)) (sl j) h d)) := by
  have h1 (X : S1024x32x16x128.Idx → EReal) (p : Fin 256) (s : Fin 32) (h : Fin 16) (x : Fin 128) :
      Host.gather gather_S1024x32x16x128_S32x256x1_S32x256x32x16x128_234_0_n_n_0_2_13216128 X
        (broadcastInDim S32x256x1 ![0, 1] bcast_S32x256_S32x256x1_0_1
          (select (cmpi .slt (bt0 m c) (broadcastInDim S32x256 ![] bcast_S_S32x256 (constantI S_ 32 0#32)))
            (addi (bt0 m c) (broadcastInDim S32x256 ![] bcast_S_S32x256 (constantI S_ 32 1024#32))) (bt0 m c))) (ix5 b p s h x)
        = X (ix4 (pageOf m c b p) s h x) := by
    refine (gather_at X _ b p s h x).trans (congrArg (fun n => X (ix4 n s h x)) ?_)
    unfold pageOf readPage
    refine congrArg nearest ?_
    pointwise
  unfold res_main_v39
  clean_types
  pointwise
  simp only [h1]
  rw [show (id (constant S_ .f32 0xFF800000#32) ix0 : Ideal .f32) = Ideal.ofBits .f32 0xFF800000#32 from rfl, least_bits]
  rfl

end Cert.ReferenceIdeal.Value

end
-- ==== Proof.WholeValue.lean ====
/-
The kernel's result is the reference's: the partials of the four devices, put together, are the softmax over the pages
the table names.
-/
module

public import proofs.«01_k».proof.Proof.HostValue
public import proofs.«01_k».proof.Proof.RefValue
public import Idealize.ShloMosaic.Lib.Layout

@[expose] public section

noncomputable section

namespace Cert.Whole

open Cert.KernelIdeal Cert.KernelIdeal.Gen Cert.Gather Cert.Attn
open Cert.Value (merge soft merge_eq mxOf accOf sumOf logn mul_sum_real)
open Cert.ReferenceIdeal.Value (live)
open Idealize.ShloMosaic Idealize.ShloMosaic.TcCoe Idealize.SL.Sem

/-- The page device `e` keeps in place `p`. -/
def page (e : Fin 4) (p : Fin 256) : Fin 1024 := ⟨256 * e.val + p.val, by omega⟩

variable (m : (ℓ : Loc nD τ sig) → Buf (Elt Ideal) ℓ)
variable (Q : S32x1x16x128.Idx → EReal) (K V : Cert.ReferenceIdeal.S1024x32x16x128.Idx → EReal) (B : IVec S32x256 32) (N : IVec S32 32)
variable (P : Fin 32 → Fin 256 → Fin 1024)

/-- A row of keys on a device against a row of queries, without its weight; the row's values; how often it is named. -/
def sc (b : Fin 32) (h : Fin 16) (i : Fin 4 × Fin 8192) : EReal :=
  ∑ x : Fin 128, Q (ix4 b (0 : Fin 1) h x) * Ideal.ofBits .f32 0x3DB504F3#32 * K (ix4 (page i.1 (pg i.2)) (sl i.2) h x)
def va (h : Fin 16) (d : Fin 128) (i : Fin 4 × Fin 8192) : EReal := V (ix4 (page i.1 (pg i.2)) (sl i.2) h d)
def nu (b : Fin 32) (i : Fin 4 × Fin 8192) : ℕ := (Finset.univ.filter fun k : Fin 256 => live N b k ∧ P b k = page i.1 (pg i.2)).card

/-- The row of keys the table's entry names: its device and its place there. -/
def place (b : Fin 32) (j : Fin 8192) : Fin 4 × Fin 8192 :=
  (⟨(P b (pg j)).val / 256, by omega⟩, ⟨(P b (pg j)).val % 256 * 32 + (sl j).val, by have := (sl j).isLt; omega⟩)

theorem place_page (b : Fin 32) (j : Fin 8192) : page (place P b j).1 (pg (place P b j).2) = P b (pg j) := by
  apply Fin.ext
  have := (sl j).isLt
  show 256 * ((P b (pg j)).val / 256) + ((P b (pg j)).val % 256 * 32 + (sl j).val) / 32 = (P b (pg j)).val
  omega
theorem place_sl (b : Fin 32) (j : Fin 8192) : sl (place P b j).2 = sl j := by
  apply Fin.ext
  have := (sl j).isLt
  show ((P b (pg j)).val % 256 * 32 + (sl j).val) % 32 = (sl j).val
  omega

theorem nu_eq (b : Fin 32) (i : Fin 4 × Fin 8192) :
    nu N P b i = (Finset.univ.filter fun j : Fin 8192 => live N b (pg j) ∧ place P b j = i).card := by
  unfold nu
  have hp (k : Fin 256) : pg (⟨32 * k.val + (sl i.2).val, by have := (sl i.2).isLt; omega⟩ : Fin 8192) = k := by
    apply Fin.ext; have := (sl i.2).isLt; show (32 * k.val + (sl i.2).val) / 32 = k.val; omega
  have hs (k : Fin 256) : sl (⟨32 * k.val + (sl i.2).val, by have := (sl i.2).isLt; omega⟩ : Fin 8192) = sl i.2 := by
    apply Fin.ext; have := (sl i.2).isLt; show (32 * k.val + (sl i.2).val) % 32 = (sl i.2).val; omega
  refine Finset.card_nbij' (fun k => (⟨32 * k.val + (sl i.2).val, by have := (sl i.2).isLt; omega⟩ : Fin 8192)) pg ?_ ?_ ?_ ?_
  · intro k hk
    have h := (Finset.mem_filter.mp hk).2
    refine Finset.mem_filter.mpr ⟨Finset.mem_univ _, by rw [hp]; exact h.1, ?_⟩
    have h2 : (P b k).val = 256 * i.1.val + i.2.val / 32 := congrArg Fin.val h.2
    refine Prod.ext (Fin.ext ?_) (Fin.ext ?_)
    · show (P b (pg _)).val / 256 = i.1.val
      rw [hp]; omega
    · show (P b (pg _)).val % 256 * 32 + (sl _).val = i.2.val
      rw [hp, hs, h2]
      show (256 * i.1.val + i.2.val / 32) % 256 * 32 + i.2.val % 32 = i.2.val
      omega
  · intro j hj
    have h := (Finset.mem_filter.mp hj).2
    exact Finset.mem_filter.mpr ⟨Finset.mem_univ _, h.1, by rw [← h.2, place_page]⟩
  · intro k _; exact hp k
  · intro j hj
    have h := (Finset.mem_filter.mp hj).2
    apply Fin.ext
    have h3 : sl i.2 = sl j := by rw [← h.2, place_sl]
    show 32 * (pg j).val + (sl i.2).val = j.val
    rw [h3]
    exact Nat.div_add_mod _ _

/-- What the devices hold: the queries, the table and the lengths whole, and each its own pages of keys and values. -/
structure Holds : Prop where
  q : ∀ c, q1 m c = Q
  k : ∀ c p s h x, k1 m c (ix4 p s h x) = K (ix4 (page c p) s h x)
  v : ∀ c p s h x, v1 m c (ix4 p s h x) = V (ix4 (page c p) s h x)
  b : ∀ c i k, live N i k → bt1 m c (ix2 i k) = BitVec.ofNat 32 (P i k).val
  n : ∀ c, ln1 m c = N

variable (H : Holds m Q K V N P)
include H

theorem cnt_eq (c : Dev nD) (b : Fin 32) (j : Fin 8192) : cnt (tbl m c t0_0) b (pg j) = nu N P b (c, j) := by
  unfold cnt nu
  refine congrArg Finset.card (Finset.filter_congr fun k _ => ?_)
  have e : (tbl m c t0_0 : IVec S32x256 32) (ix2 b k) = entry (IntOp.cmpi .slt (BitVec.ofNat 32 k.val) (N (ix1 b))) c (bt1 m c (ix2 b k)) := by
    rw [← H.n c, tbl_eq]; exact v21_at m c b k
  refine (Iff.of_eq (congrArg (· = _) e)).trans ((entry_iff _ c _ (P b k) (H.b c b k) (pg j)).trans (and_congr_right fun _ => ?_))
  exact (Fin.ext_iff (a := P b k) (b := page c (pg j))).symm

/-- A grid point's head. -/
def hd (t : Fin cfg0.N) : Fin 16 := ⟨t.val, t.isLt⟩

theorem score_eq (c : Dev nD) (t : Fin cfg0.N) (b : Fin 32) (j : Fin 8192) :
    score (wts m c) (qry m c t) (headOf (kAt m c) ((grid0.coords t) 0)) b j = sc Q K b (hd t) (c, j) + logn (nu N P b (c, j)) := by
  unfold score sc
  have e1 : (wts m c) (ix3 (0 : Fin 1) b j) = logn (nu N P b (c, j)) := by
    rw [← cnt_eq m Q K V N P H c b j]; exact weights_at (tbl m c t0_0) b j
  have e2 (x : Fin 128) : qry m c t (ix2 b x) = Q (ix4 b (0 : Fin 1) (hd t) x) := by rw [← H.q c]; exact qry_at m c t b x
  have e3 (x : Fin 128) : headOf (kAt m c) ((grid0.coords t) 0) (ix4 (0 : Fin 1) (pg j) (sl j) x) = K (ix4 (page c (pg j)) (sl j) (hd t) x) := by
    rw [← H.k c, ← keys_eq]
    exact congrArg (fun y => kAt m c (ix4 (pg j) (sl j) y x)) (Fin.ext (coord_zero t))
  rw [e1]
  refine congrArg (· + _) (Finset.sum_congr rfl fun x _ => ?_)
  rw [e2, e3]

theorem top_eq (c : Dev nD) (t : Fin cfg0.N) (b : Fin 32) :
    top (wts m c) (qry m c t) (headOf (kAt m c) ((grid0.coords t) 0)) b = mxOf floor0 (sc Q K b (hd t)) (nu N P b) c := by
  unfold top mxOf
  simp only [score_eq m Q K V N P H]

theorem val_eq (c : Dev nD) (t : Fin cfg0.N) (j : Fin 8192) (d : Fin 128) :
    headOf (vAt m c) ((grid0.coords t) 0) (ix4 (0 : Fin 1) (pg j) (sl j) d) = va V (hd t) d (c, j) := by
  unfold va
  rw [← H.v c, ← vals_eq]
  exact congrArg (fun y => vAt m c (ix4 (pg j) (sl j) y d)) (Fin.ext (coord_zero t))

theorem partial_acc (c : Dev nD) (h : Fin 16) (b : Fin 32) (d : Fin 128) : partials m c (ix3 h (⟨b.val, by omega⟩ : Fin 96) d)
    = accOf floor0 (sc Q K b h) (va V h d) (nu N P b) c := by
  refine (block_acc (wts m c) (qry m c ⟨h.val, h.isLt⟩) (headOf (kAt m c) ((grid0.coords ⟨h.val, h.isLt⟩) 0)) (headOf (vAt m c) ((grid0.coords ⟨h.val, h.isLt⟩) 0)) b d).trans ?_
  simp only [score_eq m Q K V N P H, top_eq m Q K V N P H, val_eq m Q K V N P H]
  rfl

theorem partial_max (c : Dev nD) (h : Fin 16) (b : Fin 32) (d : Fin 128) : partials m c (ix3 h (⟨32 + b.val, by omega⟩ : Fin 96) d)
    = mxOf floor0 (sc Q K b h) (nu N P b) c :=
  (block_max (wts m c) (qry m c ⟨h.val, h.isLt⟩) (headOf (kAt m c) ((grid0.coords ⟨h.val, h.isLt⟩) 0)) (headOf (vAt m c) ((grid0.coords ⟨h.val, h.isLt⟩) 0)) b d).trans
    (top_eq m Q K V N P H c ⟨h.val, h.isLt⟩ b)

theorem partial_sum (c : Dev nD) (h : Fin 16) (b : Fin 32) (d : Fin 128) : partials m c (ix3 h (⟨64 + b.val, by omega⟩ : Fin 96) d)
    = sumOf floor0 (sc Q K b h) (nu N P b) c := by
  refine (block_sum (wts m c) (qry m c ⟨h.val, h.isLt⟩) (headOf (kAt m c) ((grid0.coords ⟨h.val, h.isLt⟩) 0)) (headOf (vAt m c) ((grid0.coords ⟨h.val, h.isLt⟩) 0)) b d).trans ?_
  simp only [score_eq m Q K V N P H, top_eq m Q K V N P H]
  rfl

theorem sc_place (b : Fin 32) (h : Fin 16) (j : Fin 8192) : sc Q K b h (place P b j)
    = (∑ x : Fin 128, Q (ix4 b (0 : Fin 1) h x) * K (ix4 (P b (pg j)) (sl j) h x)) * Ideal.ofBits .f32 0x3DB504F3#32 := by
  unfold sc
  rw [place_page, place_sl, scale_bits, mul_comm, mul_sum_real _ _ scale_nonneg]
  exact Finset.sum_congr rfl fun x _ => by rw [mul_comm (Q _) (scale : EReal), mul_assoc]

/-- An entry of the kernel's result, on any device. -/
theorem result_at (c : Dev nD) (b : Fin 32) (h : Fin 16) (d : Fin 128) : (W6 m c main_v26 : S32x1x16x128.Idx → EReal) (ix4 b (0 : Fin 1) h d)
    = soft (fun j : Fin 8192 => if live N b (pg j) then
          (∑ x : Fin 128, Q (ix4 b (0 : Fin 1) h x) * K (ix4 (P b (pg j)) (sl j) h x)) * Ideal.ofBits .f32 0x3DB504F3#32 else (⊥ : EReal))
        (fun j => V (ix4 (P b (pg j)) (sl j) h d)) := by
  rw [out_at]
  simp only [partial_acc m Q K V N P H, partial_max m Q K V N P H, partial_sum m Q K V N P H]
  refine (merge_eq floor0 (sc Q K b h) (va V h d) (nu N P b) (fun j => live N b (pg j)) (place P b) (nu_eq N P b)).trans ?_
  simp only [sc_place m Q K V N P H]
  unfold va
  simp only [place_page, place_sl]

end Cert.Whole

end
-- ==== Proof.lean ====
/-
The proof of `Cert.Claim`: the kernel's run over any float values, what it leaves in the result, and the reference's run.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_pages_exist_KernelIdeal
public import proofs.«01_k».proof.Proof.Gen.Pre_pages_exist_ReferenceIdeal
public import proofs.«01_k».proof.Proof.WholeValue
public import Idealize.ShloMosaic.Lib.Pointwise
public import Idealize.ShloMosaic.Adequacy
public import Idealize.ShloMosaic.Init

@[expose] public section

noncomputable section

namespace Cert.Proof

open Idealize.ShloMosaic Idealize.ShloMosaic.TcCoe Idealize.SL.Sem

/-- Over the bit patterns a named constant is its literal's. -/
local instance : Named Bits where
  named _ _ {_} bits := bits

/-- The arguments of the kernel, none of which a run writes. -/
theorem args_kept {F : FTy → Type} [FloatOps F] [Named F] (m : (ℓ : Loc Cert.KernelIdeal.nD Cert.KernelIdeal.τ Cert.KernelIdeal.sig) → Buf (Elt F) ℓ)
    (c : Dev Cert.KernelIdeal.nD) :
    Cert.Whole.W6 m c Cert.KernelIdeal.main_arg0 = m ((c.tc : Thread Cert.KernelIdeal.nD Cert.KernelIdeal.τ).loc Cert.KernelIdeal.main_arg0)
    ∧ Cert.Whole.W6 m c Cert.KernelIdeal.main_arg1 = m ((c.tc : Thread Cert.KernelIdeal.nD Cert.KernelIdeal.τ).loc Cert.KernelIdeal.main_arg1)
    ∧ Cert.Whole.W6 m c Cert.KernelIdeal.main_arg2 = m ((c.tc : Thread Cert.KernelIdeal.nD Cert.KernelIdeal.τ).loc Cert.KernelIdeal.main_arg2)
    ∧ Cert.Whole.W6 m c Cert.KernelIdeal.main_arg3 = m ((c.tc : Thread Cert.KernelIdeal.nD Cert.KernelIdeal.τ).loc Cert.KernelIdeal.main_arg3)
    ∧ Cert.Whole.W6 m c Cert.KernelIdeal.main_arg4 = m ((c.tc : Thread Cert.KernelIdeal.nD Cert.KernelIdeal.τ).loc Cert.KernelIdeal.main_arg4) :=
  ⟨Cert.Whole.kept m c _ (by decide) (by decide) (by decide) (by decide) (by decide) (by decide),
    Cert.Whole.kept m c _ (by decide) (by decide) (by decide) (by decide) (by decide) (by decide),
    Cert.Whole.kept m c _ (by decide) (by decide) (by decide) (by decide) (by decide) (by decide),
    Cert.Whole.kept m c _ (by decide) (by decide) (by decide) (by decide) (by decide) (by decide),
    Cert.Whole.kept m c _ (by decide) (by decide) (by decide) (by decide) (by decide) (by decide)⟩

/-- The kernel's run over any float values: the result, the arguments as they were, and every counter at zero. -/
theorem run_all {F : FTy → Type} [FloatOps F] [Named F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_v26) = Cert.Whole.W6 m c Cert.KernelIdeal.main_v26
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => ⟨h.1 c _ (Cert.Whole.uc _ (by decide)),
      (h.1 c _ (Cert.Whole.uc _ (by decide))).trans (args_kept m c).1,
      (h.1 c _ (Cert.Whole.uc _ (by decide))).trans (args_kept m c).2.1,
      (h.1 c _ (Cert.Whole.uc _ (by decide))).trans (args_kept m c).2.2.1,
      (h.1 c _ (Cert.Whole.uc _ (by decide))).trans (args_kept m c).2.2.2.1,
      (h.1 c _ (Cert.Whole.uc _ (by decide))).trans (args_kept m c).2.2.2.2⟩, h.2⟩)
    (Cert.Whole.run_main (F := F) m ρ)

/-- The two body tables hold the same functions. -/
theorem bodies_eq : Cert.Kernel.defs₀ (F := Bits) = Cert.KernelIdeal.defs₀ (F := Bits) := by
  funext q
  cases q with
  | tc =>
    funext l a
    obtain ⟨_ | _ | n, hl⟩ := l
    · rfl
    · rfl
    · exact absurd hl (Nat.not_lt.2 (Nat.le_add_left _ _))
  | scScalar _ => rfl
  | scVector _ _ => rfl

theorem defs_eq : Cert.Kernel.defs (F := Bits) = Cert.KernelIdeal.defs (F := Bits) :=
  congrArg (Pipeline.defs Cert.KernelIdeal.pcfgs) bodies_eq

/-- The kernel as written runs as the idealized one does over the bit patterns. -/
theorem frame_kernel : Cert.quiescent_Kernel := fun m ρ _ => by
  rw [defs_eq]
  exact (θ_run Cert.KernelIdeal.defs _ _).mono (fun _ h => ⟨fun c => (h.1 c).2, h.2⟩) (run_all (F := Bits) m ρ)

theorem frame_ideal : Cert.quiescent_KernelIdeal := fun m ρ _ =>
  (θ_run Cert.KernelIdeal.defs _ _).mono (fun _ h => ⟨fun c => (h.1 c).2, h.2⟩) (run_all (F := Ideal) m ρ)

theorem frame_ideal_pre : Cert.quiescent_KernelIdeal_pre_pages_exist_KernelIdeal := fun m ρ _ =>
  (θ_run Cert.KernelIdeal.defs _ _).mono (fun _ h => ⟨fun c => (h.1 c).2, h.2⟩) (run_all (F := Ideal) m ρ)

/-- The reference has no counter. -/
theorem no_counter {p : Prop} : SemLoc Cert.ReferenceIdeal.sig → p
  | .reg s => s.elim0
  | .dma s => s.elim0

theorem frame_reference : Cert.quiescent_ReferenceIdeal := fun m ρ _ =>
  (θ_run Cert.ReferenceIdeal.defs _ _).mono (fun _ h => ⟨fun c => (h c).2, funext fun g => no_counter g.2⟩) (Cert.ReferenceIdeal.Value.run (F := Ideal) m ρ)

theorem frame_reference_pre : Cert.quiescent_ReferenceIdeal_pre_pages_exist_ReferenceIdeal := fun m ρ _ =>
  (θ_run Cert.ReferenceIdeal.defs _ _).mono (fun _ h => ⟨fun c => (h c).2, funext fun g => no_counter g.2⟩) (Cert.ReferenceIdeal.Value.run (F := Ideal) m ρ)

theorem named_value : Cert.preserves_Kernel_KernelIdeal :=
  IdealRules.named_const.statement Cert.KernelIdeal.κ "neg" .f32 0xF149F2CA#32 ⊥ rfl

/-- A word between the bounds is a page's number. -/
theorem word_page (x : BitVec 32) (h : IntOp.andi (IntOp.cmpi .sge x 0#32) (IntOp.cmpi .slt x 1024#32) = 1#1) :
    ∃ n : Fin 1024, x = BitVec.ofNat 32 n.val := by
  have h1 : (0#32).sle x = true := by
    by_contra hn
    rw [Bool.not_eq_true] at hn
    have : IntOp.cmpi .sge x 0#32 = 0#1 := congrArg BitVec.ofBool hn
    rw [this] at h
    revert h; generalize IntOp.cmpi .slt x 1024#32 = y; revert y; decide
  have h2 : x.slt 1024#32 = true := by
    by_contra hn
    rw [Bool.not_eq_true] at hn
    have : IntOp.cmpi .slt x 1024#32 = 0#1 := congrArg BitVec.ofBool hn
    rw [this] at h
    revert h; generalize IntOp.cmpi .sge x 0#32 = y; revert y; decide
  rw [BitVec.sle_iff_toInt_le] at h1
  rw [BitVec.slt_iff_toInt_lt] at h2
  have e0 : (0#32).toInt = 0 := by decide
  have e1 : (1024#32).toInt = 1024 := by decide
  rw [e0] at h1
  rw [e1] at h2
  have hx := x.isLt
  have h3 : x.toNat < 1024 := by
    rw [BitVec.toInt_eq_toNat_cond] at h1 h2
    split at h1 <;> omega
  exact ⟨⟨x.toNat, h3⟩, by simp⟩

/-- A place within the length is not beyond it, so the other condition holds there. -/
theorem or_dead (k n : BitVec 32) (y : BitVec 1) (hl : IntOp.cmpi .slt k n = 1#1) (h : IntOp.ori (IntOp.cmpi .sge k n) y = 1#1) : y = 1#1 := by
  have h1 : k.slt n = true := by
    by_contra hn
    rw [Bool.not_eq_true] at hn
    have : IntOp.cmpi .slt k n = 0#1 := congrArg BitVec.ofBool hn
    rw [this] at hl
    exact absurd hl (by decide)
  have h2 : n.sle k = false := by
    rw [BitVec.slt_iff_toInt_lt] at h1
    rw [← Bool.not_eq_true, BitVec.sle_iff_toInt_le]
    omega
  have h3 : IntOp.cmpi .sge k n = 0#1 := congrArg BitVec.ofBool h2
  rw [h3] at h
  revert h; revert y; decide

/-- Every device's result is the reference's. -/
theorem value : Cert.algebraic_KernelIdeal_ReferenceIdeal_pre_pages_exist_KernelIdeal := by
  intro m ρ m' ρ' hpre hagree
  refine ⟨Cert.ReferenceIdeal.Value.res_main_v39 (F := Ideal) m' 0, ?_, ?_⟩
  · have hP (b : Fin 32) (k : Fin 256) (hl : Cert.ReferenceIdeal.Value.live (Cert.ReferenceIdeal.Value.ln0 m' 0) b k) :
        Cert.ReferenceIdeal.Value.bt0 m' 0 (ix2 b k) = BitVec.ofNat 32 (Cert.ReferenceIdeal.Value.pageOf m' 0 b k).val := by
      have h := congrFun (hpre (0 : Fin 4)) (ix2 b k)
      have eb : Cert.ReferenceIdeal.Value.bt0 m' 0 = Cert.Whole.bt1 m (0 : Fin 4) := (hagree (0 : Fin 4)).2.2.2.1.symm
      have en : Cert.ReferenceIdeal.Value.ln0 m' 0 = Cert.Whole.ln1 m (0 : Fin 4) := (hagree (0 : Fin 4)).2.2.2.2.symm
      rw [en] at hl
      have h2 : IntOp.ori (IntOp.cmpi .sge (BitVec.ofNat 32 k.val) (Cert.Whole.ln1 m (0 : Fin 4) (ix1 b)))
          (IntOp.andi (IntOp.cmpi .sge (Cert.Whole.bt1 m (0 : Fin 4) (ix2 b k)) 0#32) (IntOp.cmpi .slt (Cert.Whole.bt1 m (0 : Fin 4) (ix2 b k)) 1024#32)) = 1#1 := by
        rw [← h]
        unfold Cert.Pre_pages_exist_KernelIdeal.fn
        pointwise
      obtain ⟨n, hn⟩ := word_page _ (or_dead _ _ _ hl h2)
      unfold Cert.ReferenceIdeal.Value.pageOf
      rw [eb, hn, Cert.ReferenceIdeal.Value.readPage_page]
    have H : Cert.Whole.Holds m (Cert.ReferenceIdeal.Value.q0 m' 0) (Cert.ReferenceIdeal.Value.k0 m' 0) (Cert.ReferenceIdeal.Value.v0 m' 0)
        (Cert.ReferenceIdeal.Value.ln0 m' 0) (Cert.ReferenceIdeal.Value.pageOf m' 0) := by
      refine ⟨fun c => (hagree c).1, fun c p s h x => ?_, fun c p s h x => ?_, fun c i k hl => ?_, fun c => (hagree c).2.2.2.2⟩
      · refine (congrFun (hagree c).2.1 (ix4 p s h x)).trans ?_
        refine congrArg (Cert.ReferenceIdeal.Value.k0 m' 0) (funext fun a => Fin.ext ?_)
        match a with
        | ⟨0, _⟩ => show c.val * 256 + p.val = 256 * c.val + p.val; omega
        | ⟨1, _⟩ => rfl
        | ⟨2, _⟩ => rfl
        | ⟨3, _⟩ => rfl
      · refine (congrFun (hagree c).2.2.1 (ix4 p s h x)).trans ?_
        refine congrArg (Cert.ReferenceIdeal.Value.v0 m' 0) (funext fun a => Fin.ext ?_)
        match a with
        | ⟨0, _⟩ => show c.val * 256 + p.val = 256 * c.val + p.val; omega
        | ⟨1, _⟩ => rfl
        | ⟨2, _⟩ => rfl
        | ⟨3, _⟩ => rfl
      · exact (congrFun (hagree c).2.2.2.1 (ix2 i k)).trans (hP i k hl)
    refine (θ_run Cert.KernelIdeal.defs _ _).mono (fun _ h c => ⟨(h.1 c).1.trans ?_, (h.1 c).2⟩) (run_all (F := Ideal) m ρ)
    funext i
    have hi : i = ix4 (i 0) (0 : Fin 1) (i 2) (i 3) := by
      funext a; apply Fin.ext
      match a with
      | ⟨0, _⟩ => rfl
      | ⟨1, _⟩ => have h1 : (i 1).val < 1 := (i 1).isLt; show (i 1).val = 0; omega
      | ⟨2, _⟩ => rfl
      | ⟨3, _⟩ => rfl
    rw [hi]
    exact (Cert.Whole.result_at m _ _ _ _ _ H c (i 0) (i 2) (i 3)).trans (Cert.ReferenceIdeal.Value.res_at m' 0 (i 0) (i 2) (i 3)).symm
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  Cert.Pre_pages_exist_KernelIdeal.Gen.facts, Cert.Pre_pages_exist_ReferenceIdeal.Gen.facts,
  frame_kernel, frame_ideal, frame_ideal_pre, frame_reference, frame_reference_pre, named_value, value⟩

end Cert.Proof

end
